-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_experts_exist [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v29)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_exist : Cert.Pre_experts_exist.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal)
    ∧ quiescent_ReferenceIdeal_pre_experts_exist (hReferenceIdeal := hReferenceIdeal) (hPre_experts_exist := hPre_experts_exist)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_experts_exist := hPre_experts_exist)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts_exist.lean ====
abbrev S160 : Shape := ⟨1, ![160]⟩
abbrev S1 : Shape := ⟨1, ![1]⟩
abbrev S81920x1024 : Shape := ⟨2, ![81920, 1024]⟩
abbrev S32x1024x256 : Shape := ⟨3, ![32, 1024, 256]⟩
abbrev S32x256x1024 : Shape := ⟨3, ![32, 256, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S81920x1024 .bf16) (main_arg3 : FVec F S32x1024x256 .f32) (main_arg4 : FVec F S32x1024x256 .f32) (main_arg5 : FVec F S32x256x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Kernel.lean ====
abbrev S160 : Shape := ⟨1, ![160]⟩
abbrev S1 : Shape := ⟨1, ![1]⟩
abbrev S81920x1024 : Shape := ⟨2, ![81920, 1024]⟩
abbrev S32x1024x256 : Shape := ⟨3, ![32, 1024, 256]⟩
abbrev S32x256x1024 : Shape := ⟨3, ![32, 256, 1024]⟩
abbrev S512x1024 : Shape := ⟨2, ![512, 1024]⟩
abbrev S1x1024x256 : Shape := ⟨3, ![1, 1024, 256]⟩
abbrev S1x256x1024 : Shape := ⟨3, ![1, 256, 1024]⟩
abbrev S1024x512 : Shape := ⟨2, ![1024, 512]⟩
abbrev S256x1024 : Shape := ⟨2, ![256, 1024]⟩
abbrev S1024x256 : Shape := ⟨2, ![1024, 256]⟩
abbrev S512x512 : Shape := ⟨2, ![512, 512]⟩
abbrev S512x256 : Shape := ⟨2, ![512, 256]⟩

abbrev nBuf : Space → Nat
  | .hbm => 5
  | .vmem => 12
  | .smem => 2
  | _ => 0

abbrev bufTy : (tb : Table) → Fin (tcTables nBuf tb) → BufTy
  | .hbm, ⟨0, _⟩ => ⟨S81920x1024, .bf16⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S81920x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S256x1024, .bf16⟩
  | .local _ .smem, ⟨0, _⟩ => ⟨S160, .i32⟩
  | .local _ .smem, ⟨1, _⟩ => ⟨S1, .i32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S160 : Shape := ⟨1, ![160]⟩
abbrev S1 : Shape := ⟨1, ![1]⟩
abbrev S81920x1024 : Shape := ⟨2, ![81920, 1024]⟩
abbrev S32x1024x256 : Shape := ⟨3, ![32, 1024, 256]⟩
abbrev S32x256x1024 : Shape := ⟨3, ![32, 256, 1024]⟩
abbrev S160x512 : Shape := ⟨2, ![160, 512]⟩
abbrev S81920 : Shape := ⟨1, ![81920]⟩
abbrev S_ : Shape := ⟨0, ![]⟩
abbrev S81920x1 : Shape := ⟨2, ![81920, 1]⟩
abbrev S1x32 : Shape := ⟨2, ![1, 32]⟩
abbrev S81920x32 : Shape := ⟨2, ![81920, 32]⟩
abbrev S81920x32x256 : Shape := ⟨3, ![81920, 32, 256]⟩
abbrev S81920x32x1 : Shape := ⟨3, ![81920, 32, 1]⟩

abbrev nBuf : Space → Nat
  | .hbm => 42
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x1024, .bf16⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S81920x1024, .f32⟩
  | .hbm, ⟨7, _⟩ => ⟨S160x512, .i32⟩
  | .hbm, ⟨8, _⟩ => ⟨S81920, .i32⟩
  | .hbm, ⟨9, _⟩ => ⟨S160, .i32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S160x512, .i1⟩
  | .hbm, ⟨14, _⟩ => ⟨S81920, .i1⟩
  | .hbm, ⟨15, _⟩ => ⟨S81920x1, .i32⟩
  | .hbm, ⟨16, _⟩ => ⟨S1x32, .i32⟩
  | .hbm, ⟨17, _⟩ => ⟨S81920x32, .i32⟩
  | .hbm, ⟨18, _⟩ => ⟨S81920x32, .i32⟩
  | .hbm, ⟨19, _⟩ => ⟨S81920x32, .i1⟩
  | .hbm, ⟨20, _⟩ => ⟨S81920x32, .f32⟩
  | .hbm, ⟨21, _⟩ => ⟨S81920, .f32⟩
  | .hbm, ⟨22, _⟩ => ⟨S81920x1, .f32⟩
  | .hbm, ⟨23, _⟩ => ⟨S81920x32, .f32⟩
  | .hbm, ⟨24, _⟩ => ⟨S81920x32, .f32⟩
  | .hbm, ⟨25, _⟩ => ⟨S81920x32x256, .f32⟩
  | .hbm, ⟨26, _⟩ => ⟨S81920x32x256, .f32⟩
  | .hbm, ⟨27, _⟩ => ⟨S81920x32x256, .f32⟩
  | .hbm, ⟨28, _⟩ => ⟨S81920x32x256, .f32⟩
  | .hbm, ⟨29, _⟩ => ⟨S_, .f32⟩
  | .hbm, ⟨30, _⟩ => ⟨S81920x32x256, .f32⟩
  | .hbm, ⟨31, _⟩ => ⟨S81920x32x256, .f32⟩
  | .hbm, ⟨32, _⟩ => ⟨S_, .f32⟩
  | .hbm, ⟨33, _⟩ => ⟨S81920x32x256, .f32⟩
  | .hbm, ⟨34, _⟩ => ⟨S81920x32x256, .f32⟩
  | .hbm, ⟨35, _⟩ => ⟨S81920x32x256, .f32⟩
  | .hbm, ⟨36, _⟩ => ⟨S81920x32x256, .f32⟩
  | .hbm, ⟨37, _⟩ => ⟨S81920x32x1, .f32⟩
  | .hbm, ⟨38, _⟩ => ⟨S81920x32x256, .f32⟩
  | .hbm, ⟨39, _⟩ => ⟨S81920x32x256, .f32⟩
  | .hbm, ⟨40, _⟩ => ⟨S81920x1024, .f32⟩
  | .hbm, ⟨41, _⟩ => ⟨S81920x1024, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== Kernel2.lean ====
abbrev S8x4096x1024 : Shape := ⟨3, ![8, 4096, 1024]⟩
abbrev S81920x1024 : Shape := ⟨2, ![81920, 1024]⟩
abbrev S2x32768 : Shape := ⟨2, ![2, 32768]⟩
abbrev S8x4096x128 : Shape := ⟨3, ![8, 4096, 128]⟩
abbrev S8x1x1024 : Shape := ⟨3, ![8, 1, 1024]⟩
abbrev S1024 : Shape := ⟨1, ![1024]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32768x1024 : Shape := ⟨2, ![32768, 1024]⟩
abbrev S1x1024 : Shape := ⟨2, ![1, 1024]⟩
abbrev S1x1x1024 : Shape := ⟨3, ![1, 1, 1024]⟩
abbrev S1x512x1024 : Shape := ⟨3, ![1, 512, 1024]⟩
abbrev S1x512x128 : Shape := ⟨3, ![1, 512, 128]⟩
abbrev S1x512x1 : Shape := ⟨3, ![1, 512, 1]⟩
abbrev S512x1 : Shape := ⟨2, ![512, 1]⟩
abbrev S512x1024 : Shape := ⟨2, ![512, 1024]⟩
abbrev S512 : Shape := ⟨1, ![512]⟩

abbrev nBuf : Space → Nat
  | .hbm => 32
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S81920x1024, .bf16⟩
  | .hbm, ⟨2, _⟩ => ⟨S2x32768, .i32⟩
  | .hbm, ⟨3, _⟩ => ⟨S8x4096x128, .f32⟩
  | .hbm, ⟨4, _⟩ => ⟨S8x1x1024, .f32⟩
  | .hbm, ⟨5, _⟩ => ⟨S1024, .f32⟩
  | .hbm, ⟨6, _⟩ => ⟨S1x32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S32768x1024, .bf16⟩
  | .hbm, ⟨17, _⟩ => ⟨S8x4096x1024, .bf16⟩
  | .hbm, ⟨18, _⟩ => ⟨S1x32768, .i32⟩
  | .hbm, ⟨19, _⟩ => ⟨S32768, .i32⟩
  | .hbm, ⟨20, _⟩ => ⟨S_, .i32⟩
  | .hbm, ⟨21, _⟩ => ⟨S32768, .i32⟩
  | .hbm, ⟨22, _⟩ => ⟨S32768, .i1⟩
  | .hbm, ⟨23, _⟩ => ⟨S_, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768x1, .i32⟩
  | .hbm, ⟨28, _⟩ => ⟨S32768x1024, .bf16⟩
  | .hbm, ⟨29, _⟩ => ⟨S8x4096x1024, .bf16⟩
  | .hbm, ⟨30, _⟩ => ⟨S1x1024, .f32⟩
  | .hbm, ⟨31, _⟩ => ⟨S8x4096x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x128, .f32⟩
  | .local _ .vmem, ⟨10, _⟩ => ⟨S1x512x128, .f32⟩
  | .local _ .vmem, ⟨11, _⟩ => ⟨S1x512x1024, .f32⟩
  | .local _ .vmem, ⟨12, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let c0_i32_0 : BitVec 32 := 0#32
  let v3 : BitVec 32 := Scalar.subi arg0 c0_i32_0
  let c0_i32_1 : BitVec 32 := 0#32
  let c7_i32 : BitVec 32 := 7#32
  let v4 : BitVec 32 := Scalar.maxsi c0_i32_1 v3
  let v5 : BitVec 32 := Scalar.minsi c7_i32 v4
  let c0_i32_2 : BitVec 32 := 0#32
  let v6 : BitVec 1 := Scalar.cmpi .slt arg0 c0_i32_2
  let c0_i32_3 : BitVec 32 := 0#32
  let c7_i32_4 : BitVec 32 := 7#32
  let v7 : BitVec 32 := Scalar.select v6 c0_i32_3 c7_i32_4
  let v8 : BitVec 32 := Scalar.select v2 arg1 v7
  let c0_i32_5 : BitVec 32 := 0#32
  let c0_i32_6 : BitVec 32 := 0#32
  ![v5.toNat, v8.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let c0_i32_0 : BitVec 32 := 0#32
  let v3 : BitVec 32 := Scalar.subi arg0 c0_i32_0
  let c0_i32_1 : BitVec 32 := 0#32
  let c7_i32 : BitVec 32 := 7#32
  let v4 : BitVec 32 := Scalar.maxsi c0_i32_1 v3
  let v5 : BitVec 32 := Scalar.minsi c7_i32 v4
  let c0_i32_2 : BitVec 32 := 0#32
  let v6 : BitVec 1 := Scalar.cmpi .slt arg0 c0_i32_2
  let c0_i32_3 : BitVec 32 := 0#32
  let c7_i32_4 : BitVec 32 := 7#32
  let v7 : BitVec 32 := Scalar.select v6 c0_i32_3 c7_i32_4
  let v8 : BitVec 32 := Scalar.select v2 arg1 v7
  let c0_i32_5 : BitVec 32 := 0#32
  let c0_i32_6 : BitVec 32 := 0#32
  ![v5.toNat, v8.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let c0_i32_0 : BitVec 32 := 0#32
  let v3 : BitVec 32 := Scalar.subi arg0 c0_i32_0
  let c0_i32_1 : BitVec 32 := 0#32
  let c7_i32 : BitVec 32 := 7#32
  let v4 : BitVec 32 := Scalar.maxsi c0_i32_1 v3
  let v5 : BitVec 32 := Scalar.minsi c7_i32 v4
  let c0_i32_2 : BitVec 32 := 0#32
  let v6 : BitVec 1 := Scalar.cmpi .slt arg0 c0_i32_2
  let c0_i32_3 : BitVec 32 := 0#32
  let c7_i32_4 : BitVec 32 := 7#32
  let v7 : BitVec 32 := Scalar.select v6 c0_i32_3 c7_i32_4
  let v8 : BitVec 32 := Scalar.select v2 arg1 v7
  let c0_i32_5 : BitVec 32 := 0#32
  let c0_i32_6 : BitVec 32 := 0#32
  ![v5.toNat, v8.toNat, c0_i32_5.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let c0_i32_0 : BitVec 32 := 0#32
  let v3 : BitVec 32 := Scalar.subi arg0 c0_i32_0
  let c0_i32_1 : BitVec 32 := 0#32
  let c7_i32 : BitVec 32 := 7#32
  let v4 : BitVec 32 := Scalar.maxsi c0_i32_1 v3
  let v5 : BitVec 32 := Scalar.minsi c7_i32 v4
  let c0_i32_2 : BitVec 32 := 0#32
  let v6 : BitVec 1 := Scalar.cmpi .slt arg0 c0_i32_2
  let c0_i32_3 : BitVec 32 := 0#32
  let c7_i32_4 : BitVec 32 := 7#32
  let v7 : BitVec 32 := Scalar.select v6 c0_i32_3 c7_i32_4
  let v8 : BitVec 32 := Scalar.select v2 arg1 v7
  let c0_i32_5 : BitVec 32 := 0#32
  let c0_i32_6 : BitVec 32 := 0#32
  ![v5.toNat, v8.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x4096x1024 : Shape := ⟨3, ![8, 4096, 1024]⟩
abbrev S81920x1024 : Shape := ⟨2, ![81920, 1024]⟩
abbrev S2x32768 : Shape := ⟨2, ![2, 32768]⟩
abbrev S8x4096x128 : Shape := ⟨3, ![8, 4096, 128]⟩
abbrev S8x1x1024 : Shape := ⟨3, ![8, 1, 1024]⟩
abbrev S1024 : Shape := ⟨1, ![1024]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32768x1024 : Shape := ⟨2, ![32768, 1024]⟩
abbrev S8x4096x1 : Shape := ⟨3, ![8, 4096, 1]⟩
abbrev S8x4096 : Shape := ⟨2, ![8, 4096]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S81920x1024, .bf16⟩
  | .hbm, ⟨2, _⟩ => ⟨S2x32768, .i32⟩
  | .hbm, ⟨3, _⟩ => ⟨S8x4096x128, .f32⟩
  | .hbm, ⟨4, _⟩ => ⟨S8x1x1024, .f32⟩
  | .hbm, ⟨5, _⟩ => ⟨S1024, .f32⟩
  | .hbm, ⟨6, _⟩ => ⟨S1x32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S32768x1024, .bf16⟩
  | .hbm, ⟨17, _⟩ => ⟨S32768x1024, .f32⟩
  | .hbm, ⟨18, _⟩ => ⟨S8x4096x1024, .f32⟩
  | .hbm, ⟨19, _⟩ => ⟨S1x32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x1024, .bf16⟩
  | .hbm, ⟨30, _⟩ => ⟨S32768x1024, .f32⟩
  | .hbm, ⟨31, _⟩ => ⟨S8x4096x1024, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1024 : Shape := ⟨1, ![1024]⟩
abbrev S1024x1024 : Shape := ⟨2, ![1024, 1024]⟩
abbrev S64x2x64 : Shape := ⟨3, ![64, 2, 64]⟩
abbrev S64x2x1x64x1 : Shape := ⟨5, ![64, 2, 1, 64, 1]⟩
abbrev S8x8 : Shape := ⟨2, ![8, 8]⟩
abbrev S_ : Shape := ⟨0, ![]⟩
abbrev S8x1x8 : Shape := ⟨3, ![8, 1, 8]⟩
abbrev S1x1x8x1x8 : Shape := ⟨5, ![1, 1, 8, 1, 8]⟩
abbrev S64x2x8x64x8 : Shape := ⟨5, ![64, 2, 8, 64, 8]⟩
abbrev S1024x512 : Shape := ⟨2, ![1024, 512]⟩
abbrev S1x1024 : Shape := ⟨2, ![1, 1024]⟩
abbrev S8x64x64x1024 : Shape := ⟨4, ![8, 64, 64, 1024]⟩
abbrev S8x64x64x512 : Shape := ⟨4, ![8, 64, 64, 512]⟩
abbrev S8x64x128x512 : Shape := ⟨4, ![8, 64, 128, 512]⟩
abbrev S1x64x8x1024 : Shape := ⟨4, ![1, 64, 8, 1024]⟩
abbrev S1x1x1024 : Shape := ⟨3, ![1, 1, 1024]⟩
abbrev S1x64x8x512 : Shape := ⟨4, ![1, 64, 8, 512]⟩
abbrev S1x64x16x512 : Shape := ⟨4, ![1, 64, 16, 512]⟩
abbrev S64x8x1024 : Shape := ⟨3, ![64, 8, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S64x8x512 : Shape := ⟨3, ![64, 8, 512]⟩
abbrev S64x16x512 : Shape := ⟨3, ![64, 16, 512]⟩

abbrev nBuf : Space → Nat
  | .hbm => 26
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1024, .f32⟩
  | .hbm, ⟨5, _⟩ => ⟨S64x2x64, .f32⟩
  | .hbm, ⟨6, _⟩ => ⟨S64x2x1x64x1, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x1x8, .f32⟩
  | .hbm, ⟨15, _⟩ => ⟨S1x1x8x1x8, .f32⟩
  | .hbm, ⟨16, _⟩ => ⟨S64x2x8x64x8, .f32⟩
  | .hbm, ⟨17, _⟩ => ⟨S64x2x8x64x8, .f32⟩
  | .hbm, ⟨18, _⟩ => ⟨S64x2x8x64x8, .f32⟩
  | .hbm, ⟨19, _⟩ => ⟨S1024x512, .f32⟩
  | .hbm, ⟨20, _⟩ => ⟨S1x1024, .f32⟩
  | .hbm, ⟨21, _⟩ => ⟨S1024x1024, .bf16⟩
  | .hbm, ⟨22, _⟩ => ⟨S1024x512, .bf16⟩
  | .hbm, ⟨23, _⟩ => ⟨S8x64x64x1024, .f32⟩
  | .hbm, ⟨24, _⟩ => ⟨S8x64x64x512, .f32⟩
  | .hbm, ⟨25, _⟩ => ⟨S8x64x128x512, .bf16⟩
  | .local _ .vmem, ⟨0, _⟩ => ⟨S1x64x8x1024, .f32⟩
  | .local _ .vmem, ⟨1, _⟩ => ⟨S1x64x8x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x512, .bf16⟩
  | .local _ .vmem, ⟨9, _⟩ => ⟨S1x64x8x512, .f32⟩
  | .local _ .vmem, ⟨10, _⟩ => ⟨S1x64x8x512, .f32⟩
  | .local _ .vmem, ⟨11, _⟩ => ⟨S1x64x16x512, .bf16⟩
  | .local _ .vmem, ⟨12, _⟩ => ⟨S1x64x16x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S8x1x1024 : Shape := ⟨3, ![8, 1, 1024]⟩
abbrev S1024 : Shape := ⟨1, ![1024]⟩
abbrev S1024x1024 : Shape := ⟨2, ![1024, 1024]⟩
abbrev S64x2x64 : Shape := ⟨3, ![64, 2, 64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x64x64x1024 : Shape := ⟨4, ![8, 64, 64, 1024]⟩
abbrev S8x64x64x512 : Shape := ⟨4, ![8, 64, 64, 512]⟩
abbrev S8x64x512x64x2 : Shape := ⟨5, ![8, 64, 512, 64, 2]⟩
abbrev S8x64x64x2x512 : Shape := ⟨5, ![8, 64, 64, 2, 512]⟩
abbrev S8x64x8x8x2x512 : Shape := ⟨6, ![8, 64, 8, 8, 2, 512]⟩
abbrev S8x64x8x2x8x512 : Shape := ⟨6, ![8, 64, 8, 2, 8, 512]⟩
abbrev S8x64x128x512 : Shape := ⟨4, ![8, 64, 128, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1024, .f32⟩
  | .hbm, ⟨5, _⟩ => ⟨S64x2x64, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x64x64x1024, .f32⟩
  | .hbm, ⟨31, _⟩ => ⟨S8x64x64x512, .f32⟩
  | .hbm, ⟨32, _⟩ => ⟨S8x64x512x64x2, .f32⟩
  | .hbm, ⟨33, _⟩ => ⟨S8x64x64x2x512, .f32⟩
  | .hbm, ⟨34, _⟩ => ⟨S8x64x8x8x2x512, .f32⟩
  | .hbm, ⟨35, _⟩ => ⟨S8x64x8x2x8x512, .f32⟩
  | .hbm, ⟨36, _⟩ => ⟨S8x64x64x512, .f32⟩
  | .hbm, ⟨37, _⟩ => ⟨S8x64x128x512, .f32⟩
  | .hbm, ⟨38, _⟩ => ⟨S8x64x128x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel4.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x768 : Shape := ⟨2, ![1024, 768]⟩
abbrev S1x768 : Shape := ⟨2, ![1, 768]⟩
abbrev S16x768 : Shape := ⟨2, ![16, 768]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S16x768, .f32⟩
  | .local _ .vmem, ⟨6, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S8x64x128x512 : Shape := ⟨4, ![8, 64, 128, 512]⟩
abbrev S64x64x2x64 : Shape := ⟨4, ![64, 64, 2, 64]⟩
abbrev S4x128x128 : Shape := ⟨3, ![4, 128, 128]⟩
abbrev S512 : Shape := ⟨1, ![512]⟩
abbrev S64x64x1x64 : Shape := ⟨4, ![64, 64, 1, 64]⟩
abbrev S64x64x64 : Shape := ⟨3, ![64, 64, 64]⟩
abbrev S64x64x128 : Shape := ⟨3, ![64, 64, 128]⟩
abbrev S64x128x128 : Shape := ⟨3, ![64, 128, 128]⟩
abbrev S64x128x2x8x8 : Shape := ⟨5, ![64, 128, 2, 8, 8]⟩
abbrev S64x128x8x2x8 : Shape := ⟨5, ![64, 128, 8, 2, 8]⟩
abbrev S8x8x128x128 : Shape := ⟨4, ![8, 8, 128, 128]⟩
abbrev S8x128x8x128 : Shape := ⟨4, ![8, 128, 8, 128]⟩
abbrev S8x128x8x1x128 : Shape := ⟨5, ![8, 128, 8, 1, 128]⟩
abbrev S8x8 : Shape := ⟨2, ![8, 8]⟩
abbrev S_ : Shape := ⟨0, ![]⟩
abbrev S8x8x1 : Shape := ⟨3, ![8, 8, 1]⟩
abbrev S1x1x8x8x1 : Shape := ⟨5, ![1, 1, 8, 8, 1]⟩
abbrev S8x128x8x8x128 : Shape := ⟨5, ![8, 128, 8, 8, 128]⟩
abbrev S8x1024x1024 : Shape := ⟨3, ![8, 1024, 1024]⟩
abbrev S1x512 : Shape := ⟨2, ![1, 512]⟩
abbrev S8x64x64x512 : Shape := ⟨4, ![8, 64, 64, 512]⟩
abbrev S1x8x128x512 : Shape := ⟨4, ![1, 8, 128, 512]⟩
abbrev S1x1024x1024 : Shape := ⟨3, ![1, 1024, 1024]⟩
abbrev S1x64x8x512 : Shape := ⟨4, ![1, 64, 8, 512]⟩
abbrev S8x128x512 : Shape := ⟨3, ![8, 128, 512]⟩
abbrev S1024x512 : Shape := ⟨2, ![1024, 512]⟩
abbrev S1024x1024 : Shape := ⟨2, ![1024, 1024]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S512x1 : Shape := ⟨2, ![512, 1]⟩
abbrev S64x8x512 : Shape := ⟨3, ![64, 8, 512]⟩

abbrev nBuf : Space → Nat
  | .hbm => 36
  | .vmem => 9
  | .smem => 0
  | _ => 0

abbrev bufTy : (tb : Table) → Fin (tcTables nBuf tb) → BufTy
  | .hbm, ⟨0, _⟩ => ⟨S8x64x128x512, .bf16⟩
  | .hbm, ⟨1, _⟩ => ⟨S64x64x2x64, .f32⟩
  | .hbm, ⟨2, _⟩ => ⟨S4x128x128, .f32⟩
  | .hbm, ⟨3, _⟩ => ⟨S4x128x128, .f32⟩
  | .hbm, ⟨4, _⟩ => ⟨S512, .f32⟩
  | .hbm, ⟨5, _⟩ => ⟨S64x64x1x64, .f32⟩
  | .hbm, ⟨6, _⟩ => ⟨S64x64x64, .f32⟩
  | .hbm, ⟨7, _⟩ => ⟨S64x64x1x64, .f32⟩
  | .hbm, ⟨8, _⟩ => ⟨S64x64x64, .f32⟩
  | .hbm, ⟨9, _⟩ => ⟨S64x64x64, .f32⟩
  | .hbm, ⟨10, _⟩ => ⟨S64x64x128, .f32⟩
  | .hbm, ⟨11, _⟩ => ⟨S64x64x128, .f32⟩
  | .hbm, ⟨12, _⟩ => ⟨S64x128x128, .f32⟩
  | .hbm, ⟨13, _⟩ => ⟨S64x128x2x8x8, .f32⟩
  | .hbm, ⟨14, _⟩ => ⟨S64x128x8x2x8, .f32⟩
  | .hbm, ⟨15, _⟩ => ⟨S8x8x128x128, .f32⟩
  | .hbm, ⟨16, _⟩ => ⟨S8x128x8x128, .f32⟩
  | .hbm, ⟨17, _⟩ => ⟨S8x128x8x1x128, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S8x8x1, .f32⟩
  | .hbm, ⟨26, _⟩ => ⟨S1x1x8x8x1, .f32⟩
  | .hbm, ⟨27, _⟩ => ⟨S8x128x8x8x128, .f32⟩
  | .hbm, ⟨28, _⟩ => ⟨S8x128x8x8x128, .f32⟩
  | .hbm, ⟨29, _⟩ => ⟨S8x128x8x8x128, .f32⟩
  | .hbm, ⟨30, _⟩ => ⟨S8x1024x1024, .f32⟩
  | .hbm, ⟨31, _⟩ => ⟨S8x1024x1024, .bf16⟩
  | .hbm, ⟨32, _⟩ => ⟨S4x128x128, .bf16⟩
  | .hbm, ⟨33, _⟩ => ⟨S4x128x128, .bf16⟩
  | .hbm, ⟨34, _⟩ => ⟨S1x512, .f32⟩
  | .hbm, ⟨35, _⟩ => ⟨S8x64x64x512, .f32⟩
  | .local _ .vmem, ⟨0, _⟩ => ⟨S1x8x128x512, .bf16⟩
  | .local _ .vmem, ⟨1, _⟩ => ⟨S1x8x128x512, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x128x128, .bf16⟩
  | .local _ .vmem, ⟨5, _⟩ => ⟨S4x128x128, .bf16⟩
  | .local _ .vmem, ⟨6, _⟩ => ⟨S1x512, .f32⟩
  | .local _ .vmem, ⟨7, _⟩ => ⟨S1x64x8x512, .f32⟩
  | .local _ .vmem, ⟨8, _⟩ => ⟨S1x64x8x512, .f32⟩
  | _, _ => ⟨S8x64x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8x64x128x512 : Shape := ⟨4, ![8, 64, 128, 512]⟩
abbrev S64x64x2x64 : Shape := ⟨4, ![64, 64, 2, 64]⟩
abbrev S4x128x128 : Shape := ⟨3, ![4, 128, 128]⟩
abbrev S512 : Shape := ⟨1, ![512]⟩
abbrev S8x64x8x2x8x512 : Shape := ⟨6, ![8, 64, 8, 2, 8, 512]⟩
abbrev S8x64x2x8x8x512 : Shape := ⟨6, ![8, 64, 2, 8, 8, 512]⟩
abbrev S8x64x2x64x512 : Shape := ⟨5, ![8, 64, 2, 64, 512]⟩
abbrev S8x64x1x64x512 : Shape := ⟨5, ![8, 64, 1, 64, 512]⟩
abbrev S8x64x64x512 : Shape := ⟨4, ![8, 64, 64, 512]⟩
abbrev S64x64x1x64 : Shape := ⟨4, ![64, 64, 1, 64]⟩
abbrev S64x64x64 : Shape := ⟨3, ![64, 64, 64]⟩
abbrev S64x8x512x64 : Shape := ⟨4, ![64, 8, 512, 64]⟩
abbrev S8x64x64x4x128 : Shape := ⟨5, ![8, 64, 64, 4, 128]⟩
abbrev S4x128x8x64x64 : Shape := ⟨5, ![4, 128, 8, 64, 64]⟩
abbrev S_ : Shape := ⟨0, ![]⟩
abbrev S8x64x64 : Shape := ⟨3, ![8, 64, 64]⟩
abbrev S8x64x64x1 : Shape := ⟨4, ![8, 64, 64, 1]⟩
abbrev S1x1x1x512 : Shape := ⟨4, ![1, 1, 1, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x64x128x512, .bf16⟩
  | .hbm, ⟨1, _⟩ => ⟨S64x64x2x64, .f32⟩
  | .hbm, ⟨2, _⟩ => ⟨S4x128x128, .f32⟩
  | .hbm, ⟨3, _⟩ => ⟨S4x128x128, .f32⟩
  | .hbm, ⟨4, _⟩ => ⟨S512, .f32⟩
  | .hbm, ⟨5, _⟩ => ⟨S8x64x128x512, .f32⟩
  | .hbm, ⟨6, _⟩ => ⟨S8x64x8x2x8x512, .f32⟩
  | .hbm, ⟨7, _⟩ => ⟨S8x64x2x8x8x512, .f32⟩
  | .hbm, ⟨8, _⟩ => ⟨S8x64x2x64x512, .f32⟩
  | .hbm, ⟨9, _⟩ => ⟨S8x64x1x64x512, .f32⟩
  | .hbm, ⟨10, _⟩ => ⟨S8x64x64x512, .f32⟩
  | .hbm, ⟨11, _⟩ => ⟨S8x64x1x64x512, .f32⟩
  | .hbm, ⟨12, _⟩ => ⟨S8x64x64x512, .f32⟩
  | .hbm, ⟨13, _⟩ => ⟨S64x64x1x64, .f32⟩
  | .hbm, ⟨14, _⟩ => ⟨S64x64x64, .f32⟩
  | .hbm, ⟨15, _⟩ => ⟨S64x64x1x64, .f32⟩
  | .hbm, ⟨16, _⟩ => ⟨S64x64x64, .f32⟩
  | .hbm, ⟨17, _⟩ => ⟨S64x8x512x64, .f32⟩
  | .hbm, ⟨18, _⟩ => ⟨S8x64x64x512, .f32⟩
  | .hbm, ⟨19, _⟩ => ⟨S64x64x64, .f32⟩
  | .hbm, ⟨20, _⟩ => ⟨S64x8x512x64, .f32⟩
  | .hbm, ⟨21, _⟩ => ⟨S8x64x64x512, .f32⟩
  | .hbm, ⟨22, _⟩ => ⟨S8x64x64x512, .f32⟩
  | .hbm, ⟨23, _⟩ => ⟨S64x8x512x64, .f32⟩
  | .hbm, ⟨24, _⟩ => ⟨S8x64x64x512, .f32⟩
  | .hbm, ⟨25, _⟩ => ⟨S64x8x512x64, .f32⟩
  | .hbm, ⟨26, _⟩ => ⟨S8x64x64x512, .f32⟩
  | .hbm, ⟨27, _⟩ => ⟨S8x64x64x512, .f32⟩
  | .hbm, ⟨28, _⟩ => ⟨S8x64x64x4x128, .f32⟩
  | .hbm, ⟨29, _⟩ => ⟨S8x64x64x4x128, .f32⟩
  | .hbm, ⟨30, _⟩ => ⟨S4x128x8x64x64, .f32⟩
  | .hbm, ⟨31, _⟩ => ⟨S8x64x64x4x128, .f32⟩
  | .hbm, ⟨32, _⟩ => ⟨S4x128x8x64x64, .f32⟩
  | .hbm, ⟨33, _⟩ => ⟨S8x64x64x4x128, .f32⟩
  | .hbm, ⟨34, _⟩ => ⟨S8x64x64x4x128, .f32⟩
  | .hbm, ⟨35, _⟩ => ⟨S8x64x64x512, .f32⟩
  | .hbm, ⟨36, _⟩ => ⟨S8x64x64x512, .f32⟩
  | .hbm, ⟨37, _⟩ => ⟨S_, .f32⟩
  | .hbm, ⟨38, _⟩ => ⟨S8x64x64, .f32⟩
  | .hbm, ⟨39, _⟩ => ⟨S8x64x64x1, .f32⟩
  | .hbm, ⟨40, _⟩ => ⟨S_, .f32⟩
  | .hbm, ⟨41, _⟩ => ⟨S8x64x64x1, .f32⟩
  | .hbm, ⟨42, _⟩ => ⟨S8x64x64x1, .f32⟩
  | .hbm, ⟨43, _⟩ => ⟨S_, .f32⟩
  | .hbm, ⟨44, _⟩ => ⟨S8x64x64x1, .f32⟩
  | .hbm, ⟨45, _⟩ => ⟨S8x64x64x1, .f32⟩
  | .hbm, ⟨46, _⟩ => ⟨S8x64x64x1, .f32⟩
  | .hbm, ⟨47, _⟩ => ⟨S8x64x64x512, .f32⟩
  | .hbm, ⟨48, _⟩ => ⟨S8x64x64x512, .f32⟩
  | .hbm, ⟨49, _⟩ => ⟨S1x1x1x512, .f32⟩
  | .hbm, ⟨50, _⟩ => ⟨S8x64x64x512, .f32⟩
  | .hbm, ⟨51, _⟩ => ⟨S8x64x64x512, .f32⟩
  | _, _ => ⟨S8x64x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Proof.Moe.Words.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables and the scratches the kernel is handed, whole. -/
abbrev tbM0 : Memref sig .tc .smem S160 .i32 := Memref.whole main_arg0
abbrev tbM1 : Memref sig .tc .smem S1 .i32 := Memref.whole main_arg1
abbrev scM0 : Memref sig .tc .vmem S1024x512 .bf16 := Memref.whole cc0_scratch0
abbrev scM1 : Memref sig .tc .vmem S256x1024 .bf16 := Memref.whole cc0_scratch1

/-- The number of used tiles, as the body reads it. -/
abbrev wUsed (T1 : S1.Idx → Elt F .i32) : BitVec 32 :=
  View.readAt (Elt F) tbM1.view (Rect.unit (s := S1) ![0] S1.size inb_S1_S1_0).toLoadRect T1 (Shape.Idx.first (numel1_S1.symm ▸ Nat.one_pos))
/-- The tile's expert, as the body reads it. -/
abbrev wHere (i : grid0.Coords) (T0 : S160.Idx → Elt F .i32) : BitVec 32 :=
  View.readAt (Elt F) tbM0.view (Rect.unit (s := S160) (k0_off1 i) S1.size (k0_off1_inb i)).toLoadRect T0 (Shape.Idx.first (numel1_S1.symm ▸ Nat.one_pos))
/-- The expert of the tile before it (its own at the first). -/
abbrev wPrev (i : grid0.Coords) (T0 : S160.Idx → Elt F .i32) : BitVec 32 :=
  View.readAt (Elt F) tbM0.view (Rect.unit (s := S160) (k0_off2 i) S1.size (k0_off2_inb i)).toLoadRect T0 (Shape.Idx.first (numel1_S1.symm ▸ Nat.one_pos))

/-- Whether the body repacks the weights: the tile is used, and it is the first or its expert is new. -/
abbrev condNew (i : grid0.Coords) (u h p : BitVec 32) : BitVec 1 :=
  Scalar.cmpi .ne (Scalar.extui (Scalar.andi (Scalar.cmpi .slt (BitVec.ofNat 32 (i 0).val) u) (Scalar.ori (Scalar.cmpi .eq (BitVec.ofNat 32 (i 0).val) 0#32) (Scalar.cmpi .ne h p)))) 0#32

end Cert.KernelIdeal.Moe

end
-- ==== Proof.Moe.Pack.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Words
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- An expert's gate and up weights rounded and packed side by side, gate first. -/
def packGU (x1 x2 : S1x1024x256.Idx → Elt F .f32) : S1024x512.Idx → Elt F .bf16 :=
  scM0.view.read (Elt F) (scM0.view.writes (Elt F) scM0.view.junk
    [⟨Rect.unit ![0, 256] S1024x256.size inb_S1024x512_S1024x256_0_256, k0_pay2 x2⟩,
     ⟨Rect.unit ![0, 0] S1024x256.size inb_S1024x512_S1024x256_0_0, k0_pay1 x1⟩])

/-- A used tile's output. -/
def outUsed (x0 : S512x1024.Idx → Elt F .bf16) (x1 x2 : S1x1024x256.Idx → Elt F .f32) (x3 : S1x256x1024.Idx → Elt F .f32) : S512x1024.Idx → Elt F .bf16 :=
  k0_pay4 x0 (packGU x1 x2) (k0_pay3 x3)

/-- What the body does to its windows, tables and scratches, at closed contents. -/
def Turns (c : Dev nD) (arg3 : Memref sig .tc .vmem S512x1024 .bf16) (arg4 : Memref sig .tc .vmem S1x1024x256 .f32) (arg5 : Memref sig .tc .vmem S1x1024x256 .f32) (arg6 : Memref sig .tc .vmem S1x256x1024 .f32) (arg7 : Memref sig .tc .vmem S512x1024 .bf16)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (o : S512x1024.Idx → Elt F .bf16) (b0 : Buf (Elt F) ((c : Thread nD τ).loc cc0_scratch0)) (b1 : Buf (Elt F) ((c : Thread nD τ).loc cc0_scratch1))
    (W : (PUnit → sProp 𝕄) → sProp 𝕄) : Prop :=
  ∀ K : PUnit → sProp 𝕄,
    iprop(owns (c : Thread nD τ) arg3 fullShare x0
          ∗ owns (c : Thread nD τ) arg4 fullShare x1
          ∗ owns (c : Thread nD τ) arg5 fullShare x2
          ∗ owns (c : Thread nD τ) arg6 fullShare x3
          ∗ (tbM0.view.loc (c : Thread nD τ) ↦{fullShare.right} T0)
          ∗ (tbM1.view.loc (c : Thread nD τ) ↦{fullShare.right} T1)
          ∗ (∃ d, owns (c : Thread nD τ) arg7 fullShare d)
          ∗ (scM0.view.loc (c : Thread nD τ) ↦{fullShare} xa0)
          ∗ (scM1.view.loc (c : Thread nD τ) ↦{fullShare} xa1)
          ∗ (iprop(owns (c : Thread nD τ) arg3 fullShare x0
          ∗ owns (c : Thread nD τ) arg4 fullShare x1
          ∗ owns (c : Thread nD τ) arg5 fullShare x2
          ∗ owns (c : Thread nD τ) arg6 fullShare x3
              ∗ (tbM0.view.loc (c : Thread nD τ) ↦{fullShare.right} T0)
              ∗ (tbM1.view.loc (c : Thread nD τ) ↦{fullShare.right} T1)
              ∗ owns (c : Thread nD τ) arg7 fullShare o
              ∗ (scM0.view.loc (c : Thread nD τ) ↦{fullShare} b0)
              ∗ (scM1.view.loc (c : Thread nD τ) ↦{fullShare} b1)) -∗ K ⟨⟩))
          ⊢ W K

theorem turns_of_run (c : Dev nD) (arg3 : Memref sig .tc .vmem S512x1024 .bf16) (arg4 : Memref sig .tc .vmem S1x1024x256 .f32) (arg5 : Memref sig .tc .vmem S1x1024x256 .f32) (arg6 : Memref sig .tc .vmem S1x256x1024 .f32) (arg7 : Memref sig .tc .vmem S512x1024 .bf16)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (o : S512x1024.Idx → Elt F .bf16) (b0 : Buf (Elt F) ((c : Thread nD τ).loc cc0_scratch0)) (b1 : Buf (Elt F) ((c : Thread nD τ).loc cc0_scratch1))
    (W : (PUnit → sProp 𝕄) → sProp 𝕄) (out0 : List (View.Piece (Elt F) S512x1024 .bf16))
    (hout : ∀ f : arg7.view.ty.Contents (Elt F), arg7.view.read (Elt F) (arg7.view.writes (Elt F) f out0) = o)
    (hrun : ∀ K : PUnit → sProp 𝕄,
      iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0.view.loc (c : Thread nD τ) ↦{fullShare.right} T0)
          ∗ (tbM1.view.loc (c : Thread nD τ) ↦{fullShare.right} T1)
          ∗ (∃ d, owns (c : Thread nD τ) arg7 fullShare d)
          ∗ (scM0.view.loc (c : Thread nD τ) ↦{fullShare} xa0)
          ∗ (scM1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
              ∗ (tbM0.view.loc (c : Thread nD τ) ↦{fullShare.right} T0)
              ∗ (tbM1.view.loc (c : Thread nD τ) ↦{fullShare.right} T1)
              ∗ (∃ f, arg7.view.loc (c : Thread nD τ) ↦[arg7.view.set]{fullShare} arg7.view.writes (Elt F) f out0)
              ∗ (scM0.view.loc (c : Thread nD τ) ↦{fullShare} b0)
              ∗ (scM1.view.loc (c : Thread nD τ) ↦{fullShare} b1)) -∗ K ⟨⟩))
          ⊢ W K) :
    Turns c arg3 arg4 arg5 arg6 arg7 T0 T1 x0 x1 x2 x3 xa0 xa1 o b0 b1 W := by
  intro K
  iintro ⟨H0, H1, H2, H3, HT0, HT1, H4, HS0, HS1, Hk⟩
  iapply hrun K
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, ⟨%e4, H4⟩, HS0, HS1⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact hout _
  isplitl [HS0]; · iexact HS0
  iexact HS1

/-- A found result's property, carried to values it equals. -/
theorem found_at {A B C : Type} {P : A → B → C → Prop} (r : Σ' (a : A) (b : B), { x : C // P a b x }) {b : B} {x : C}
    (hb : r.2.1 = b) (hx : r.2.2.1 = x) : P r.1 b x := by
  subst hb hx; exact r.2.2.2

end Cert.KernelIdeal.Moe

end
-- ==== Proof.Moe.Tile.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Pack
public import Idealize.ShloMosaic.Lib.Pointwise
public import Idealize.ShloMosaic.Lib.WritesUnit
public import Idealize.ShloMosaic.Lib.Pipeline.ValueKit.Geometry
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The gated hidden value of one row and one hidden channel, from the gate and up products. -/
def hidden (g u : EReal) : EReal := g * Ideal.logistic g * u

/-- The body's arithmetic at a row and column: the down product of the gated hidden values. -/
theorem pay4_apply (x : S512x1024.Idx → Elt Ideal .bf16) (w : S1024x512.Idx → Elt Ideal .bf16) (d : S256x1024.Idx → Elt Ideal .bf16) (r : Fin 512) (c : Fin 1024) :
    k0_pay4 (F := Ideal) x w d (ix2 r c)
      = ∑ f : Fin 256, hidden (∑ k : Fin 1024, x (ix2 r k) * w (ix2 k (⟨f.val, by omega⟩ : Fin 512))) (∑ k : Fin 1024, x (ix2 r k) * w (ix2 k (⟨256 + f.val, by omega⟩ : Fin 512))) * d (ix2 f c) := by
  unfold k0_pay4 hidden
  simp only [pointwise, zero_add]
  refine Finset.sum_congr rfl fun f _ => ?_
  have e0 : ∀ h, (⟨(![0, 0] : Fin 2 → ℕ) 0 + r.val, h⟩ : Fin 512) = r := fun h => Fin.ext (Nat.zero_add _)
  have e1 : ∀ h, (⟨(![0, 256] : Fin 2 → ℕ) 0 + r.val, h⟩ : Fin 512) = r := fun h => Fin.ext (Nat.zero_add _)
  have e2 : ∀ h, (⟨(![0, 0] : Fin 2 → ℕ) 1 + f.val, h⟩ : Fin 512) = ⟨f.val, by omega⟩ := fun h => Fin.ext (Nat.zero_add _)
  have e3 : ∀ h, (⟨(![0, 256] : Fin 2 → ℕ) 1 + f.val, h⟩ : Fin 512) = ⟨256 + f.val, by omega⟩ := fun h => rfl
  simp only [e0, e1, e2, e3]

theorem pay1_apply (x1 : S1x1024x256.Idx → Elt Ideal .f32) (k : Fin 1024) (f : Fin 256) :
    k0_pay1 (F := Ideal) x1 (ix2 k f) = x1 (ix3 0 k f) := by
  unfold k0_pay1
  simp only [pointwise]

theorem pay2_apply (x1 : S1x1024x256.Idx → Elt Ideal .f32) (k : Fin 1024) (f : Fin 256) :
    k0_pay2 (F := Ideal) x1 (ix2 k f) = x1 (ix3 0 k f) := by
  unfold k0_pay2
  simp only [pointwise]

theorem pay3_apply (x3 : S1x256x1024.Idx → Elt Ideal .f32) (f : Fin 256) (c : Fin 1024) :
    k0_pay3 (F := Ideal) x3 (ix2 f c) = x3 (ix3 0 f c) := by
  unfold k0_pay3
  simp only [pointwise]

/-- Two blocks of columns written side by side, read in the left one and in the right one. -/
theorem side_left {κ : Kind} {sp : Space} (v : View sig κ sp S1024x512 .bf16) (f₀ : v.ty.Contents (Elt Ideal)) (A B : S1024x256.Idx → Elt Ideal .bf16) (y : S1024x512.Idx) (x : S1024x256.Idx)
    (h0 : (y 0).val = (x 0).val) (h1 : (y 1).val = (x 1).val) :
    v.read (Elt Ideal) (v.writes (Elt Ideal) f₀
      [⟨Rect.unit ![0, 256] S1024x256.size inb_S1024x512_S1024x256_0_256, B⟩,
       ⟨Rect.unit ![0, 0] S1024x256.size inb_S1024x512_S1024x256_0_0, A⟩]) y = A x := by
  have hlt : (y 1).val < 256 := h1 ▸ (x 1).isLt
  refine (View.read_writes_cons_unit_of_not_mem v f₀ inb_S1024x512_S1024x256_0_256 B _ y rfl (1 : Fin 2) (.inl hlt)).trans ?_
  refine View.read_writes_cons_unit_of_mem v f₀ inb_S1024x512_S1024x256_0_0 A [] y x rfl fun a => ?_
  match a with
  | ⟨0, _⟩ => exact h0.trans (Nat.zero_add _).symm
  | ⟨1, _⟩ => exact h1.trans (Nat.zero_add _).symm

theorem side_right {κ : Kind} {sp : Space} (v : View sig κ sp S1024x512 .bf16) (f₀ : v.ty.Contents (Elt Ideal)) (A B : S1024x256.Idx → Elt Ideal .bf16) (y : S1024x512.Idx) (x : S1024x256.Idx)
    (h0 : (y 0).val = (x 0).val) (h1 : (y 1).val = 256 + (x 1).val) :
    v.read (Elt Ideal) (v.writes (Elt Ideal) f₀
      [⟨Rect.unit ![0, 256] S1024x256.size inb_S1024x512_S1024x256_0_256, B⟩,
       ⟨Rect.unit ![0, 0] S1024x256.size inb_S1024x512_S1024x256_0_0, A⟩]) y = B x := by
  refine View.read_writes_cons_unit_of_mem v f₀ inb_S1024x512_S1024x256_0_256 B _ y x rfl fun a => ?_
  match a with
  | ⟨0, _⟩ => exact h0.trans (Nat.zero_add _).symm
  | ⟨1, _⟩ => exact h1

/-- The packed weights' left half is the gate weights. -/
theorem pack_left (x1 x2 : S1x1024x256.Idx → Elt Ideal .f32) (k : Fin 1024) (f : Fin 256) :
    packGU (F := Ideal) x1 x2 (ix2 k (⟨f.val, by omega⟩ : Fin 512)) = x1 (ix3 0 k f) := by
  unfold packGU
  rw [← pay1_apply x1 k f]
  exact side_left scM0.view _ _ _ _ (ix2 k f) rfl rfl

/-- The right half is the up weights. -/
theorem pack_right (x1 x2 : S1x1024x256.Idx → Elt Ideal .f32) (k : Fin 1024) (f : Fin 256) :
    packGU (F := Ideal) x1 x2 (ix2 k (⟨256 + f.val, by omega⟩ : Fin 512)) = x2 (ix3 0 k f) := by
  unfold packGU
  rw [← pay2_apply x2 k f]
  exact side_right scM0.view _ _ _ _ (ix2 k f) rfl rfl

/-- A used tile's output at a row and column. -/
theorem outUsed_apply (x0 : S512x1024.Idx → Elt Ideal .bf16) (x1 x2 : S1x1024x256.Idx → Elt Ideal .f32) (x3 : S1x256x1024.Idx → Elt Ideal .f32) (r : Fin 512) (c : Fin 1024) :
    outUsed (F := Ideal) x0 x1 x2 x3 (ix2 r c)
      = ∑ f : Fin 256, hidden (∑ k : Fin 1024, x0 (ix2 r k) * x1 (ix3 0 k f)) (∑ k : Fin 1024, x0 (ix2 r k) * x2 (ix3 0 k f)) * x3 (ix3 0 f c) := by
  unfold outUsed
  rw [pay4_apply]
  simp only [pack_left, pack_right, pay3_apply]

/-- An unused tile's output is zero. -/
theorem pay5_apply (y : S512x1024.Idx) : k0_pay5 (F := Ideal) y = 0 := by
  unfold k0_pay5
  simp only [pointwise]

end Cert.KernelIdeal.Moe

end
-- ==== Proof.Moe.RunNew.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Words
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 8000000 in
/-- A used tile with a new expert: the expert's weights are rounded and packed, then the tile is computed from them. -/
noncomputable def runNew (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : (condNew i (wUsed T1) (wHere i T0) (wPrev i T0) = 1#1)) (k0_h2 : (k0_cond2 i (wUsed T1) = 1#1)) (k0_h3 : ¬(k0_cond3 i (wUsed T1) = 1#1)) :
    Σ' (out0 : List (View.Piece (Elt F) S512x1024 .bf16)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0.view.loc (c : Thread nD τ) ↦{fullShare.right} T0)
          ∗ (tbM1.view.loc (c : Thread nD τ) ↦{fullShare.right} T1)
          ∗ (∃ d, owns (c : Thread nD τ) arg7 fullShare d)
          ∗ (scM0.view.loc (c : Thread nD τ) ↦{fullShare} xa0)
          ∗ (scM1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0.view.loc (c : Thread nD τ) ↦{fullShare.right} T0)
              ∗ (tbM1.view.loc (c : Thread nD τ) ↦{fullShare.right} T1)
              ∗ (∃ f, arg7.view.loc (c : Thread nD τ) ↦[arg7.view.set]{fullShare} arg7.view.writes (Elt F) f out0)
              ∗ (scM0.view.loc (c : Thread nD τ) ↦{fullShare} out1)
              ∗ (scM1.view.loc (c : Thread nD τ) ↦{fullShare} out2)) -∗ K ⟨⟩))
          ⊢ wp frame (wpE (defs₀ (F := F)) Variants.none c none) Set.univ (cc0_moe_experts i tbM0 (Memref.isWhole_whole _) tbM1 (Memref.isWhole_whole _) arg3 harg3 arg4 harg4 arg5 harg5 arg6 harg6 arg7 harg7 scM0 (Memref.isWhole_whole _) scM1 (Memref.isWhole_whole _)) K } :=
  ⟨_, _, _, fun K => by
    unfold owns
    rw [cc0_moe_experts_eq_skeleton]; unfold cc0_moe_experts_skel
    iintro ⟨H0, H1, H2, H3, HT0, HT1, ⟨%d4, %f4, -, HO4⟩, HS0, HS1, Hk⟩
    have hS0 : scM0.IsWhole := Memref.isWhole_whole _
    have hS1 : scM1.IsWhole := Memref.isWhole_whole _
    have hT0 : tbM0.IsWhole := Memref.isWhole_whole _
    have hT1 : tbM1.IsWhole := Memref.isWhole_whole _
    sl_exec! (disch := first | (guard_target = Scalar.cmpi _ _ _ = _; exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

end Cert.KernelIdeal.Moe

end
-- ==== Proof.Moe.TurnNew.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Pack
public import proofs.«01_k».proof.Proof.Moe.RunNew
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem wholeRead0 (f : S1024x512.Idx → Elt F .bf16) : (View.whole cc0_scratch0).read (Elt F) f = f := rfl
theorem wholeRead1 (f : S256x1024.Idx → Elt F .bf16) : (View.whole cc0_scratch1).read (Elt F) f = f := rfl

theorem runNew_out (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : (condNew i (wUsed T1) (wHere i T0) (wPrev i T0) = 1#1)) (k0_h2 : (k0_cond2 i (wUsed T1) = 1#1)) (k0_h3 : ¬(k0_cond3 i (wUsed T1) = 1#1)) (f : arg7.view.ty.Contents (Elt F)) :
    arg7.view.read (Elt F) (arg7.view.writes (Elt F) f (runNew c i arg3 harg3 arg4 harg4 arg5 harg5 arg6 harg6 arg7 harg7 T0 T1 x0 x1 x2 x3 xa0 xa1 hc0 k0_h2 k0_h3).1) = outUsed (F := F) x0 x1 x2 x3 := by
  show arg7.view.read (Elt F) (arg7.view.writes (Elt F) f (runNew.sl.HO4_1 arg3 arg4 arg5 arg6 x0 x1 x2 x3)) = _
  unfold runNew.sl.HO4_1 runNew.sl.v20 runNew.sl.v28 runNew.sl.HS0_2 runNew.sl.HS1_1 outUsed packGU
  rw [View.read_writes_full]
  rw [View.readAt_rep_full arg3.view x0 inb_S512x1024_S512x1024_0_0, View.readAt_rep_full arg4.view x1 inb_S1x1024x256_S1x1024x256_0_0_0,
    View.readAt_rep_full arg5.view x2 inb_S1x1024x256_S1x1024x256_0_0_0, View.readAt_rep_full arg6.view x3 inb_S1x256x1024_S1x256x1024_0_0_0]
  rw [View.readCov_full, View.readCov, View.readAt_full]

theorem runNew_sc0 (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : (condNew i (wUsed T1) (wHere i T0) (wPrev i T0) = 1#1)) (k0_h2 : (k0_cond2 i (wUsed T1) = 1#1)) (k0_h3 : ¬(k0_cond3 i (wUsed T1) = 1#1)) :
    (runNew c i arg3 harg3 arg4 harg4 arg5 harg5 arg6 harg6 arg7 harg7 T0 T1 x0 x1 x2 x3 xa0 xa1 hc0 k0_h2 k0_h3).2.1 = packGU (F := F) x1 x2 := by
  delta runNew
  conv => lhs; dsimp only
  unfold runNew.sl.HS0_2 packGU
  rw [View.readAt_rep_full arg4.view x1 inb_S1x1024x256_S1x1024x256_0_0_0,
    View.readAt_rep_full arg5.view x2 inb_S1x1024x256_S1x1024x256_0_0_0]
  exact (wholeRead0 _).symm

theorem runNew_sc1 (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : (condNew i (wUsed T1) (wHere i T0) (wPrev i T0) = 1#1)) (k0_h2 : (k0_cond2 i (wUsed T1) = 1#1)) (k0_h3 : ¬(k0_cond3 i (wUsed T1) = 1#1)) :
    (runNew c i arg3 harg3 arg4 harg4 arg5 harg5 arg6 harg6 arg7 harg7 T0 T1 x0 x1 x2 x3 xa0 xa1 hc0 k0_h2 k0_h3).2.2.1 = k0_pay3 (F := F) x3 := by
  delta runNew
  conv => lhs; dsimp only
  unfold runNew.sl.HS1_1
  rw [View.readAt_rep_full arg6.view x3 inb_S1x256x1024_S1x256x1024_0_0_0]
  exact (wholeRead1 _).symm.trans (View.read_writes_full (View.whole cc0_scratch1) _ _ _ _)

/-- The body's turn on this path, at closed contents. -/
theorem turnsNew (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : (condNew i (wUsed T1) (wHere i T0) (wPrev i T0) = 1#1)) (k0_h2 : (k0_cond2 i (wUsed T1) = 1#1)) (k0_h3 : ¬(k0_cond3 i (wUsed T1) = 1#1)) :
    Turns c arg3 arg4 arg5 arg6 arg7 T0 T1 x0 x1 x2 x3 xa0 xa1 (outUsed (F := F) x0 x1 x2 x3) (packGU (F := F) x1 x2) (k0_pay3 (F := F) x3)
      (fun K => wp frame (wpE (defs₀ (F := F)) Variants.none c none) Set.univ (cc0_moe_experts i tbM0 (Memref.isWhole_whole _) tbM1 (Memref.isWhole_whole _) arg3 harg3 arg4 harg4 arg5 harg5 arg6 harg6 arg7 harg7 scM0 (Memref.isWhole_whole _) scM1 (Memref.isWhole_whole _)) K) :=
  turns_of_run c arg3 arg4 arg5 arg6 arg7 T0 T1 x0 x1 x2 x3 xa0 xa1 _ _ _ _ _
    (runNew_out c i arg3 harg3 arg4 harg4 arg5 harg5 arg6 harg6 arg7 harg7 T0 T1 x0 x1 x2 x3 xa0 xa1 hc0 k0_h2 k0_h3)
    (found_at (runNew c i arg3 harg3 arg4 harg4 arg5 harg5 arg6 harg6 arg7 harg7 T0 T1 x0 x1 x2 x3 xa0 xa1 hc0 k0_h2 k0_h3) (runNew_sc0 c i arg3 harg3 arg4 harg4 arg5 harg5 arg6 harg6 arg7 harg7 T0 T1 x0 x1 x2 x3 xa0 xa1 hc0 k0_h2 k0_h3) (runNew_sc1 c i arg3 harg3 arg4 harg4 arg5 harg5 arg6 harg6 arg7 harg7 T0 T1 x0 x1 x2 x3 xa0 xa1 hc0 k0_h2 k0_h3))

end Cert.KernelIdeal.Moe

end
-- ==== Proof.Moe.RunSame.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Words
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 8000000 in
/-- A used tile with the expert of the tile before: computed from the packed weights as they stand. -/
noncomputable def runSame (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : (k0_cond2 i (wUsed T1) = 1#1)) (k0_h3 : ¬(k0_cond3 i (wUsed T1) = 1#1)) :
    Σ' (out0 : List (View.Piece (Elt F) S512x1024 .bf16)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0.view.loc (c : Thread nD τ) ↦{fullShare.right} T0)
          ∗ (tbM1.view.loc (c : Thread nD τ) ↦{fullShare.right} T1)
          ∗ (∃ d, owns (c : Thread nD τ) arg7 fullShare d)
          ∗ (scM0.view.loc (c : Thread nD τ) ↦{fullShare} xa0)
          ∗ (scM1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0.view.loc (c : Thread nD τ) ↦{fullShare.right} T0)
              ∗ (tbM1.view.loc (c : Thread nD τ) ↦{fullShare.right} T1)
              ∗ (∃ f, arg7.view.loc (c : Thread nD τ) ↦[arg7.view.set]{fullShare} arg7.view.writes (Elt F) f out0)
              ∗ (scM0.view.loc (c : Thread nD τ) ↦{fullShare} out1)
              ∗ (scM1.view.loc (c : Thread nD τ) ↦{fullShare} out2)) -∗ K ⟨⟩))
          ⊢ wp frame (wpE (defs₀ (F := F)) Variants.none c none) Set.univ (cc0_moe_experts i tbM0 (Memref.isWhole_whole _) tbM1 (Memref.isWhole_whole _) arg3 harg3 arg4 harg4 arg5 harg5 arg6 harg6 arg7 harg7 scM0 (Memref.isWhole_whole _) scM1 (Memref.isWhole_whole _)) K } :=
  ⟨_, _, _, fun K => by
    unfold owns
    rw [cc0_moe_experts_eq_skeleton]; unfold cc0_moe_experts_skel
    iintro ⟨H0, H1, H2, H3, HT0, HT1, ⟨%d4, %f4, -, HO4⟩, HS0, HS1, Hk⟩
    have hS0 : scM0.IsWhole := Memref.isWhole_whole _
    have hS1 : scM1.IsWhole := Memref.isWhole_whole _
    have hT0 : tbM0.IsWhole := Memref.isWhole_whole _
    have hT1 : tbM1.IsWhole := Memref.isWhole_whole _
    sl_exec! (disch := first | (guard_target = ¬(Scalar.cmpi _ _ _ = _); exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

end Cert.KernelIdeal.Moe

end
-- ==== Proof.Moe.TurnSame.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Pack
public import proofs.«01_k».proof.Proof.Moe.RunSame
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem runSame_out (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : (k0_cond2 i (wUsed T1) = 1#1)) (k0_h3 : ¬(k0_cond3 i (wUsed T1) = 1#1)) (f : arg7.view.ty.Contents (Elt F)) :
    arg7.view.read (Elt F) (arg7.view.writes (Elt F) f (runSame c i arg3 harg3 arg4 harg4 arg5 harg5 arg6 harg6 arg7 harg7 T0 T1 x0 x1 x2 x3 xa0 xa1 hc0 k0_h2 k0_h3).1) = k0_pay4 (F := F) x0 xa0 xa1 := by
  show arg7.view.read (Elt F) (arg7.view.writes (Elt F) f (runSame.sl.HO4_1 c arg3 x0 xa0 xa1)) = _
  unfold runSame.sl.HO4_1
  rw [View.read_writes_full]
  rw [View.readAt_rep_full arg3.view x0 inb_S512x1024_S512x1024_0_0, View.readAt_full scM0.view xa0 inb_S1024x512_S1024x512_0_0,
    View.readAt_full scM1.view xa1 inb_S256x1024_S256x1024_0_0]
  rfl

theorem runSame_sc0 (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : (k0_cond2 i (wUsed T1) = 1#1)) (k0_h3 : ¬(k0_cond3 i (wUsed T1) = 1#1)) :
    (runSame c i arg3 harg3 arg4 harg4 arg5 harg5 arg6 harg6 arg7 harg7 T0 T1 x0 x1 x2 x3 xa0 xa1 hc0 k0_h2 k0_h3).2.1 = xa0 := rfl

theorem runSame_sc1 (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : (k0_cond2 i (wUsed T1) = 1#1)) (k0_h3 : ¬(k0_cond3 i (wUsed T1) = 1#1)) :
    (runSame c i arg3 harg3 arg4 harg4 arg5 harg5 arg6 harg6 arg7 harg7 T0 T1 x0 x1 x2 x3 xa0 xa1 hc0 k0_h2 k0_h3).2.2.1 = xa1 := rfl

/-- The body's turn on this path, at closed contents. -/
theorem turnsSame (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : (k0_cond2 i (wUsed T1) = 1#1)) (k0_h3 : ¬(k0_cond3 i (wUsed T1) = 1#1)) :
    Turns c arg3 arg4 arg5 arg6 arg7 T0 T1 x0 x1 x2 x3 xa0 xa1 (k0_pay4 (F := F) x0 xa0 xa1) xa0 xa1
      (fun K => wp frame (wpE (defs₀ (F := F)) Variants.none c none) Set.univ (cc0_moe_experts i tbM0 (Memref.isWhole_whole _) tbM1 (Memref.isWhole_whole _) arg3 harg3 arg4 harg4 arg5 harg5 arg6 harg6 arg7 harg7 scM0 (Memref.isWhole_whole _) scM1 (Memref.isWhole_whole _)) K) :=
  turns_of_run c arg3 arg4 arg5 arg6 arg7 T0 T1 x0 x1 x2 x3 xa0 xa1 _ _ _ _ _
    (runSame_out c i arg3 harg3 arg4 harg4 arg5 harg5 arg6 harg6 arg7 harg7 T0 T1 x0 x1 x2 x3 xa0 xa1 hc0 k0_h2 k0_h3)
    (found_at (runSame c i arg3 harg3 arg4 harg4 arg5 harg5 arg6 harg6 arg7 harg7 T0 T1 x0 x1 x2 x3 xa0 xa1 hc0 k0_h2 k0_h3) (runSame_sc0 c i arg3 harg3 arg4 harg4 arg5 harg5 arg6 harg6 arg7 harg7 T0 T1 x0 x1 x2 x3 xa0 xa1 hc0 k0_h2 k0_h3) (runSame_sc1 c i arg3 harg3 arg4 harg4 arg5 harg5 arg6 harg6 arg7 harg7 T0 T1 x0 x1 x2 x3 xa0 xa1 hc0 k0_h2 k0_h3))

end Cert.KernelIdeal.Moe

end
-- ==== Proof.Moe.RunUnused.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Words
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 8000000 in
/-- An unused tile: the output tile is zeroed and nothing else is touched. -/
noncomputable def runUnused (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : ¬(k0_cond2 i (wUsed T1) = 1#1)) (k0_h3 : (k0_cond3 i (wUsed T1) = 1#1)) :
    Σ' (out0 : List (View.Piece (Elt F) S512x1024 .bf16)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0.view.loc (c : Thread nD τ) ↦{fullShare.right} T0)
          ∗ (tbM1.view.loc (c : Thread nD τ) ↦{fullShare.right} T1)
          ∗ (∃ d, owns (c : Thread nD τ) arg7 fullShare d)
          ∗ (scM0.view.loc (c : Thread nD τ) ↦{fullShare} xa0)
          ∗ (scM1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0.view.loc (c : Thread nD τ) ↦{fullShare.right} T0)
              ∗ (tbM1.view.loc (c : Thread nD τ) ↦{fullShare.right} T1)
              ∗ (∃ f, arg7.view.loc (c : Thread nD τ) ↦[arg7.view.set]{fullShare} arg7.view.writes (Elt F) f out0)
              ∗ (scM0.view.loc (c : Thread nD τ) ↦{fullShare} out1)
              ∗ (scM1.view.loc (c : Thread nD τ) ↦{fullShare} out2)) -∗ K ⟨⟩))
          ⊢ wp frame (wpE (defs₀ (F := F)) Variants.none c none) Set.univ (cc0_moe_experts i tbM0 (Memref.isWhole_whole _) tbM1 (Memref.isWhole_whole _) arg3 harg3 arg4 harg4 arg5 harg5 arg6 harg6 arg7 harg7 scM0 (Memref.isWhole_whole _) scM1 (Memref.isWhole_whole _)) K } :=
  ⟨_, _, _, fun K => by
    unfold owns
    rw [cc0_moe_experts_eq_skeleton]; unfold cc0_moe_experts_skel
    iintro ⟨H0, H1, H2, H3, HT0, HT1, ⟨%d4, %f4, -, HO4⟩, HS0, HS1, Hk⟩
    have hS0 : scM0.IsWhole := Memref.isWhole_whole _
    have hS1 : scM1.IsWhole := Memref.isWhole_whole _
    have hT0 : tbM0.IsWhole := Memref.isWhole_whole _
    have hT1 : tbM1.IsWhole := Memref.isWhole_whole _
    sl_exec! (disch := first | (guard_target = ¬(Scalar.cmpi _ _ _ = _); exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

end Cert.KernelIdeal.Moe

end
-- ==== Proof.Moe.TurnUnused.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Pack
public import proofs.«01_k».proof.Proof.Moe.RunUnused
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem runUnused_out (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : ¬(k0_cond2 i (wUsed T1) = 1#1)) (k0_h3 : (k0_cond3 i (wUsed T1) = 1#1)) (f : arg7.view.ty.Contents (Elt F)) :
    arg7.view.read (Elt F) (arg7.view.writes (Elt F) f (runUnused c i arg3 harg3 arg4 harg4 arg5 harg5 arg6 harg6 arg7 harg7 T0 T1 x0 x1 x2 x3 xa0 xa1 hc0 k0_h2 k0_h3).1) = k0_pay5 (F := F) := by
  show arg7.view.read (Elt F) (arg7.view.writes (Elt F) f (runUnused.sl.HO4_1)) = _
  unfold runUnused.sl.HO4_1
  rw [View.read_writes_full]

theorem runUnused_sc0 (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : ¬(k0_cond2 i (wUsed T1) = 1#1)) (k0_h3 : (k0_cond3 i (wUsed T1) = 1#1)) :
    (runUnused c i arg3 harg3 arg4 harg4 arg5 harg5 arg6 harg6 arg7 harg7 T0 T1 x0 x1 x2 x3 xa0 xa1 hc0 k0_h2 k0_h3).2.1 = xa0 := rfl

theorem runUnused_sc1 (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : ¬(k0_cond2 i (wUsed T1) = 1#1)) (k0_h3 : (k0_cond3 i (wUsed T1) = 1#1)) :
    (runUnused c i arg3 harg3 arg4 harg4 arg5 harg5 arg6 harg6 arg7 harg7 T0 T1 x0 x1 x2 x3 xa0 xa1 hc0 k0_h2 k0_h3).2.2.1 = xa1 := rfl

/-- The body's turn on this path, at closed contents. -/
theorem turnsUnused (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S160.Idx → Elt F .i32) (T1 : S1.Idx → Elt F .i32)
    (x0 : S512x1024.Idx → Elt F .bf16) (x1 : S1x1024x256.Idx → Elt F .f32) (x2 : S1x1024x256.Idx → Elt F .f32) (x3 : S1x256x1024.Idx → Elt F .f32)
    (xa0 : Buf (Elt F) ((c : Thread nD τ).loc cc0_scratch0)) (xa1 : Buf (Elt F) ((c : Thread nD τ).loc cc0_scratch1))
    (hc0 : ¬(condNew i (wUsed T1) (wHere i T0) (wPrev i T0) = 1#1)) (k0_h2 : ¬(k0_cond2 i (wUsed T1) = 1#1)) (k0_h3 : (k0_cond3 i (wUsed T1) = 1#1)) :
    Turns c arg3 arg4 arg5 arg6 arg7 T0 T1 x0 x1 x2 x3 xa0 xa1 (k0_pay5 (F := F)) xa0 xa1
      (fun K => wp frame (wpE (defs₀ (F := F)) Variants.none c none) Set.univ (cc0_moe_experts i tbM0 (Memref.isWhole_whole _) tbM1 (Memref.isWhole_whole _) arg3 harg3 arg4 harg4 arg5 harg5 arg6 harg6 arg7 harg7 scM0 (Memref.isWhole_whole _) scM1 (Memref.isWhole_whole _)) K) :=
  turns_of_run c arg3 arg4 arg5 arg6 arg7 T0 T1 x0 x1 x2 x3 xa0 xa1 _ _ _ _ _
    (runUnused_out c i arg3 harg3 arg4 harg4 arg5 harg5 arg6 harg6 arg7 harg7 T0 T1 x0 x1 x2 x3 xa0 xa1 hc0 k0_h2 k0_h3)
    (found_at (runUnused c i arg3 harg3 arg4 harg4 arg5 harg5 arg6 harg6 arg7 harg7 T0 T1 x0 x1 x2 x3 xa0 xa1 hc0 k0_h2 k0_h3) (runUnused_sc0 c i arg3 harg3 arg4 harg4 arg5 harg5 arg6 harg6 arg7 harg7 T0 T1 x0 x1 x2 x3 xa0 xa1 hc0 k0_h2 k0_h3) (runUnused_sc1 c i arg3 harg3 arg4 harg4 arg5 harg5 arg6 harg6 arg7 harg7 T0 T1 x0 x1 x2 x3 xa0 xa1 hc0 k0_h2 k0_h3))

end Cert.KernelIdeal.Moe

end
-- ==== Proof.Moe.Cfg.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.TurnNew
public import proofs.«01_k».proof.Proof.Moe.TurnSame
public import proofs.«01_k».proof.Proof.Moe.TurnUnused
public import Idealize.ShloMosaic.Lib.Pipeline.ValueKit.Geometry
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T0 : S160.Idx → Elt F .i32) (T1 : S1.Idx → Elt F .i32)

/-- The tables' contents. -/
def pfT : pre0.Contents (Elt F) := fun | ⟨0, _⟩ => T0 | ⟨1, _⟩ => T1 | ⟨_ + 2, h⟩ => absurd h (by simp)

/-- The weights' block at a tile is its expert's, whole. -/
theorem tr1 (i : grid0.Coords) : cc0_transform_1 k0_off1_inb numel1_S1 (pfT T0 T1) i = ![(wHere i T0).toNat, 0, 0] := rfl
theorem tr2 (i : grid0.Coords) : cc0_transform_2 k0_off1_inb numel1_S1 (pfT T0 T1) i = ![(wHere i T0).toNat, 0, 0] := rfl
theorem tr3 (i : grid0.Coords) : cc0_transform_3 k0_off1_inb numel1_S1 (pfT T0 T1) i = ![(wHere i T0).toNat, 0, 0] := rfl

/-- Every tile's expert exists. -/
abbrev Exist : Prop := ∀ k, (T0 k : BitVec 32).toNat < 32

variable (hT : Exist T0)

include hT in
theorem wHere_lt (i : grid0.Coords) : (wHere i T0).toNat < 32 := hT _

include hT in
theorem inb1 (i : grid0.Coords) : ∀ a, (![(wHere i T0).toNat, 0, 0] a + 1) * S1x1024x256.size a ≤ S32x1024x256.size a := by
  have h := wHere_lt T0 hT i
  intro a
  fin_cases a
  · show ((wHere i T0).toNat + 1) * 1 ≤ 32; omega
  · show (0 + 1) * 1024 ≤ 1024; omega
  · show (0 + 1) * 256 ≤ 256; omega

include hT in
theorem inb3 (i : grid0.Coords) : ∀ a, (![(wHere i T0).toNat, 0, 0] a + 1) * S1x256x1024.size a ≤ S32x256x1024.size a := by
  have h := wHere_lt T0 hT i
  intro a
  fin_cases a
  · show ((wHere i T0).toNat + 1) * 1 ≤ 32; omega
  · show (0 + 1) * 256 ≤ 256; omega
  · show (0 + 1) * 1024 ≤ 1024; omega

include hT in
theorem ok_pfT : ok0 (F := F) (pfT T0 T1) :=
  ⟨fun i => ⟨by rw [tr1]; exact inb1 T0 hT i, .inl rfl⟩, fun i => ⟨by rw [tr2]; exact inb1 T0 hT i, .inl rfl⟩, fun i => ⟨by rw [tr3]; exact inb3 T0 hT i, .inl rfl⟩⟩

def adm : (pcfg0 (F := F)).Adm := ⟨pfT T0 T1, ok_pfT T0 T1 hT⟩
abbrev cfgA : Pipeline.Cfg sig Λ₀ := cfg0 (F := F) (adm T0 T1 hT)
abbrev pcs : Fin 1 → Pipeline.Cfg sig Λ₀ := Pipeline.pin (pcfgs (F := F)) fun _ => adm T0 T1 hT

variable (m : (ℓ : Loc nD τ sig) → Buf (Elt F) ℓ) (ρ : Dev nD → PrngReg)

/-- Point `t`'s coordinates. -/
abbrev crd (t : Fin (cfgA T0 T1 hT).N) : (cfgA T0 T1 hT).grid.Coords := (cfgA T0 T1 hT).grid.coords t

abbrev ms0 (t : Fin (cfgA T0 T1 hT).N) : Memref sig .tc .vmem S512x1024 .bf16 := spec0_0.stage ((cfgA T0 T1 hT).slots t (0 : Fin 5))
abbrev hs0 (t : Fin (cfgA T0 T1 hT).N) : (ms0 T0 T1 hT t).IsWhole := hstage0_0 (((cfgA T0 T1 hT).slots t (0 : Fin 5)).cast nbuf0_0)
abbrev ms1 (t : Fin (cfgA T0 T1 hT).N) : Memref sig .tc .vmem S1x1024x256 .f32 := spec0_1.stage ((cfgA T0 T1 hT).slots t (1 : Fin 5))
abbrev hs1 (t : Fin (cfgA T0 T1 hT).N) : (ms1 T0 T1 hT t).IsWhole := hstage0_1 (((cfgA T0 T1 hT).slots t (1 : Fin 5)).cast nbuf0_1)
abbrev ms2 (t : Fin (cfgA T0 T1 hT).N) : Memref sig .tc .vmem S1x1024x256 .f32 := spec0_2.stage ((cfgA T0 T1 hT).slots t (2 : Fin 5))
abbrev hs2 (t : Fin (cfgA T0 T1 hT).N) : (ms2 T0 T1 hT t).IsWhole := hstage0_2 (((cfgA T0 T1 hT).slots t (2 : Fin 5)).cast nbuf0_2)
abbrev ms3 (t : Fin (cfgA T0 T1 hT).N) : Memref sig .tc .vmem S1x256x1024 .f32 := spec0_3.stage ((cfgA T0 T1 hT).slots t (3 : Fin 5))
abbrev hs3 (t : Fin (cfgA T0 T1 hT).N) : (ms3 T0 T1 hT t).IsWhole := hstage0_3 (((cfgA T0 T1 hT).slots t (3 : Fin 5)).cast nbuf0_3)
abbrev ms4 (t : Fin (cfgA T0 T1 hT).N) : Memref sig .tc .vmem S512x1024 .bf16 := spec0_4.stage ((cfgA T0 T1 hT).slots t (4 : Fin 5))
abbrev hs4 (t : Fin (cfgA T0 T1 hT).N) : (ms4 T0 T1 hT t).IsWhole := hstage0_4 (((cfgA T0 T1 hT).slots t (4 : Fin 5)).cast nbuf0_4)

/-- Window `w`'s block at point `t`, read off its array at launch. -/
def iblk (c : Dev nD) (w : Fin (cfgA T0 T1 hT).W) (t : Fin (cfgA T0 T1 hT).N) : (((cfgA T0 T1 hT).win w).xblock (crd T0 T1 hT t)).Idx → Elt F ((cfgA T0 T1 hT).win w).elt :=
  (((cfgA T0 T1 hT).win w).blk t).view.read (Elt F) ((s₀ m ρ).mem (((cfgA T0 T1 hT).win w).arr.view.loc (c : Thread nD τ)))

/-- Expert `e`'s slice of the gate (or up) weights, -/
def wblk (A : S32x1024x256.Idx → Elt F .f32) (e : ℕ) : S1x1024x256.Idx → Elt F .f32 := fun y =>
  A (fun | ⟨0, _⟩ => (⟨e % 32, Nat.mod_lt _ (by decide)⟩ : Fin 32) | ⟨1, _⟩ => (y 1 : Fin 1024) | ⟨2, _⟩ => (y 2 : Fin 256) | ⟨_ + 3, h⟩ => absurd h (by simp))
/-- and of the down weights. -/
def dblk (A : S32x256x1024.Idx → Elt F .f32) (e : ℕ) : S1x256x1024.Idx → Elt F .f32 := fun y =>
  A (fun | ⟨0, _⟩ => (⟨e % 32, Nat.mod_lt _ (by decide)⟩ : Fin 32) | ⟨1, _⟩ => (y 1 : Fin 256) | ⟨2, _⟩ => (y 2 : Fin 1024) | ⟨_ + 3, h⟩ => absurd h (by simp))
/-- The tile's rows. -/
def xblk (A : S81920x1024.Idx → Elt F .bf16) (i : grid0.Coords) : S512x1024.Idx → Elt F .bf16 := fun y =>
  A (fun | ⟨0, _⟩ => (⟨(i 0).val * 512 + (y 0).val, by have h : (i 0).val < 160 := (i 0).isLt; have h' : (y 0).val < 512 := (y 0).isLt; show _ < 81920; omega⟩ : Fin 81920) | ⟨1, _⟩ => (y 1 : Fin 1024) | ⟨_ + 2, h⟩ => absurd h (by simp))

theorem iblk1 (c : Dev nD) (t : Fin (cfgA T0 T1 hT).N) : iblk T0 T1 hT m ρ c (1 : Fin 5) t = wblk (m ((c : Thread nD τ).loc main_arg3)) (wHere (crd T0 T1 hT t) T0).toNat := by
  have h := wHere_lt T0 hT (crd T0 T1 hT t)
  funext y
  unfold iblk wblk
  show m ((c : Thread nD τ).loc main_arg3) _ = _
  congr 1; funext a; apply Fin.ext
  have hy : (y 0).val < 1 := (y 0).isLt
  fin_cases a
  · show (wHere (crd T0 T1 hT t) T0).toNat * 1 + 1 * (y 0).val = (wHere (crd T0 T1 hT t) T0).toNat % 32
    rw [Nat.mod_eq_of_lt h]; omega
  · show 0 * 1024 + 1 * (y 1).val = (y 1).val; omega
  · show 0 * 256 + 1 * (y 2).val = (y 2).val; omega

theorem iblk2 (c : Dev nD) (t : Fin (cfgA T0 T1 hT).N) : iblk T0 T1 hT m ρ c (2 : Fin 5) t = wblk (m ((c : Thread nD τ).loc main_arg4)) (wHere (crd T0 T1 hT t) T0).toNat := by
  have h := wHere_lt T0 hT (crd T0 T1 hT t)
  funext y
  unfold iblk wblk
  show m ((c : Thread nD τ).loc main_arg4) _ = _
  congr 1; funext a; apply Fin.ext
  have hy : (y 0).val < 1 := (y 0).isLt
  fin_cases a
  · show (wHere (crd T0 T1 hT t) T0).toNat * 1 + 1 * (y 0).val = (wHere (crd T0 T1 hT t) T0).toNat % 32
    rw [Nat.mod_eq_of_lt h]; omega
  · show 0 * 1024 + 1 * (y 1).val = (y 1).val; omega
  · show 0 * 256 + 1 * (y 2).val = (y 2).val; omega

theorem iblk3 (c : Dev nD) (t : Fin (cfgA T0 T1 hT).N) : iblk T0 T1 hT m ρ c (3 : Fin 5) t = dblk (m ((c : Thread nD τ).loc main_arg5)) (wHere (crd T0 T1 hT t) T0).toNat := by
  have h := wHere_lt T0 hT (crd T0 T1 hT t)
  funext y
  unfold iblk dblk
  show m ((c : Thread nD τ).loc main_arg5) _ = _
  congr 1; funext a; apply Fin.ext
  have hy : (y 0).val < 1 := (y 0).isLt
  fin_cases a
  · show (wHere (crd T0 T1 hT t) T0).toNat * 1 + 1 * (y 0).val = (wHere (crd T0 T1 hT t) T0).toNat % 32
    rw [Nat.mod_eq_of_lt h]; omega
  · show 0 * 256 + 1 * (y 1).val = (y 1).val; omega
  · show 0 * 1024 + 1 * (y 2).val = (y 2).val; omega

theorem tr0_val (i : grid0.Coords) : (BitVec.ofNat 32 (i 0).val).toNat = (i 0).val := by
  have h : (i 0).val < 160 := (i 0).isLt
  rw [BitVec.toNat_ofNat]; exact Nat.mod_eq_of_lt (by omega)

theorem iblk0 (c : Dev nD) (t : Fin (cfgA T0 T1 hT).N) : iblk T0 T1 hT m ρ c (0 : Fin 5) t = xblk (m ((c : Thread nD τ).loc main_arg2)) (crd T0 T1 hT t) := by
  funext y
  unfold iblk xblk
  show m ((c : Thread nD τ).loc main_arg2) _ = _
  congr 1; funext a; apply Fin.ext
  fin_cases a
  · show (BitVec.ofNat 32 (crd T0 T1 hT t 0).val).toNat * 512 + 1 * (y 0).val = (crd T0 T1 hT t 0).val * 512 + (y 0).val
    rw [tr0_val]; omega
  · show 0 * 1024 + 1 * (y 1).val = (y 1).val; omega

end Cert.KernelIdeal.Moe

end
-- ==== Proof.Moe.Cond.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Cfg
public import proofs.«01_k».proof.Proof.Moe.TurnSame
public import proofs.«01_k».proof.Proof.Moe.TurnUnused
public import Idealize.ShloMosaic.Lib.Pipeline.ValueKit.Geometry
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A tile is used when its number is below the count of used tiles. -/
theorem toInt_crd (i : grid0.Coords) : (BitVec.ofNat 32 (i 0).val).toInt = ((i 0).val : ℤ) := by
  have h : (i 0).val < 160 := (i 0).isLt
  rw [BitVec.toInt_eq_toNat_of_lt] <;> rw [BitVec.toNat_ofNat, Nat.mod_eq_of_lt (by omega)]; omega

theorem scmpi_slt {x y : BitVec 32} : Scalar.cmpi .slt x y = 1#1 ↔ x.toInt < y.toInt := IntOp.cmpi_slt
theorem scmpi_eq {x y : BitVec 32} : Scalar.cmpi .eq x y = 1#1 ↔ x = y := IntOp.cmpi_eq
theorem scmpi_ne {x y : BitVec 32} : Scalar.cmpi .ne x y = 1#1 ↔ x ≠ y := IntOp.cmpi_ne

theorem cond2_iff (i : grid0.Coords) (u : BitVec 32) : k0_cond2 i u = 1#1 ↔ ((i 0).val : ℤ) < u.toInt := by
  unfold k0_cond2
  dsimp only
  rw [Scalar.guard_iff, scmpi_slt, toInt_crd]

theorem cond3_iff (i : grid0.Coords) (u : BitVec 32) : k0_cond3 i u = 1#1 ↔ ¬ ((i 0).val : ℤ) < u.toInt := by
  unfold k0_cond3
  dsimp only
  rw [Scalar.guard_iff, ← toInt_crd, ← scmpi_slt]
  generalize Scalar.cmpi .slt (BitVec.ofNat 32 (i 0).val) u = b
  revert b; decide

theorem bits_iff : ∀ b d e : BitVec 1, Scalar.andi b (Scalar.ori d e) = 1#1 ↔ b = 1#1 ∧ (d = 1#1 ∨ e = 1#1) := by decide

theorem condNew_iff (i : grid0.Coords) (u h p : BitVec 32) : condNew i u h p = 1#1 ↔ ((i 0).val : ℤ) < u.toInt ∧ ((i 0).val = 0 ∨ h ≠ p) := by
  unfold condNew
  rw [Scalar.guard_iff, bits_iff, scmpi_slt, scmpi_eq, scmpi_ne, toInt_crd]
  have h0 : (BitVec.ofNat 32 (i 0).val = 0#32) ↔ (i 0).val = 0 := by
    rw [← BitVec.toNat_inj, tr0_val]; rfl
  rw [h0]

theorem off2_eq (i j : grid0.Coords) (h : (j 0).val + 1 = (i 0).val) : k0_off2 i = k0_off1 j := by
  revert i j; decide +kernel

/-- The expert of the tile before, read there. -/
theorem wPrev_eq (T0 : S160.Idx → Elt F .i32) (i j : grid0.Coords) (h : (j 0).val + 1 = (i 0).val) : wPrev i T0 = wHere j T0 := by
  show T0 _ = T0 _
  congr 1; funext a; apply Fin.ext
  exact congrArg (· + 1 * 0) (congrFun (off2_eq i j h) a)

variable (T0 : S160.Idx → Elt F .i32) (T1 : S1.Idx → Elt F .i32) (hT : Exist T0)

theorem crd_val (t : Fin (cfgA T0 T1 hT).N) : (crd T0 T1 hT t 0).val = t.val := (by decide +kernel : ∀ t : Fin grid0.N, (grid0.coords t 0).val = t.val) t

theorem atD1 : (pfT T0 T1).atD 1 ![0] = wUsed T1 := by
  unfold Pipeline.Prefetch.Contents.atD
  rw [dif_pos (by decide)]
  show T1 _ = T1 _
  congr 1

/-- The output window is stored at every tile. -/
theorem idle4 (i : grid0.Coords) : idle0 (pfT T0 T1) (4 : Fin 5) i = false := by
  show (!(k0_cond2 i ((pfT T0 T1).atD 1 ![0]) == 1#1) && !(k0_cond3 i ((pfT T0 T1).atD 1 ![0]) == 1#1)) = false
  rw [atD1]
  by_cases h : k0_cond2 i (wUsed T1) = 1#1
  · rw [h]; rfl
  · have h3 : k0_cond3 i (wUsed T1) = 1#1 := by rw [cond3_iff, ← cond2_iff]; exact h
    rw [h3]; simp

end Cert.KernelIdeal.Moe

end
-- ==== Proof.Moe.Body.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Cond
public import proofs.«01_k».proof.Proof.Moe.TurnSame
public import proofs.«01_k».proof.Proof.Moe.TurnUnused
public import Idealize.ShloMosaic.Lib.Pipeline.ValueKit.Geometry
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

variable (T0 : S160.Idx → Elt F .i32) (T1 : S1.Idx → Elt F .i32) (hT : Exist T0)
variable (m : (ℓ : Loc nD τ sig) → Buf (Elt F) ℓ) (ρ : Dev nD → PrngReg)

/-- What a tile's output block holds: the expert's result on its rows, zero past the used tiles. -/
def tileOut (i : grid0.Coords) (x0 : S512x1024.Idx → Elt F .bf16) (x1 x2 : S1x1024x256.Idx → Elt F .f32) (x3 : S1x256x1024.Idx → Elt F .f32) : S512x1024.Idx → Elt F .bf16 :=
  haveI := Classical.propDecidable
  if k0_cond2 i (wUsed T1) = 1#1 then outUsed x0 x1 x2 x3 else k0_pay5

/-- THE INVARIANT before point `t`: the scratches hold the weights of the tile before it, packed, once a used tile has run; the
    body's halves of the tables. -/
def Phi (c : Dev nD) (t : Fin ((cfgA T0 T1 hT).N + 1)) : sProp 𝕄 :=
  iprop((∃ a0 a1, ⌜∀ s : Fin (cfgA T0 T1 hT).N, s.val + 1 = t.val → k0_cond2 (crd T0 T1 hT s) (wUsed T1) = 1#1 →
        a0 = packGU (F := F) (iblk T0 T1 hT m ρ c (1 : Fin 5) s) (iblk T0 T1 hT m ρ c (2 : Fin 5) s) ∧ a1 = k0_pay3 (F := F) (iblk T0 T1 hT m ρ c (3 : Fin 5) s)⌝
      ∗ (scM0.view.loc (c : Thread nD τ) ↦{fullShare} a0) ∗ (scM1.view.loc (c : Thread nD τ) ↦{fullShare} a1))
    ∗ (tbM0.view.loc (c : Thread nD τ) ↦{fullShare.right} T0) ∗ (tbM1.view.loc (c : Thread nD τ) ↦{fullShare.right} T1))

/-- The proof data of the one pipeline on core `c`. -/
def dats (_ : Fin 1) (c : Dev nD) : Dat τ (Elt F) Unit ℕ (UR sig nD τ) ℕ (cfgA T0 T1 hT) c where
  A w := (s₀ m ρ).mem (((cfgA T0 T1 hT).win w).arr.view.loc (c : Thread nD τ))
  after w t := match w with
    | ⟨0, _⟩ => iblk T0 T1 hT m ρ c (0 : Fin 5) t
    | ⟨1, _⟩ => iblk T0 T1 hT m ρ c (1 : Fin 5) t
    | ⟨2, _⟩ => iblk T0 T1 hT m ρ c (2 : Fin 5) t
    | ⟨3, _⟩ => iblk T0 T1 hT m ρ c (3 : Fin 5) t
    | ⟨4, _⟩ => tileOut T1 (crd T0 T1 hT t) (iblk T0 T1 hT m ρ c (0 : Fin 5) t) (iblk T0 T1 hT m ρ c (1 : Fin 5) t) (iblk T0 T1 hT m ρ c (2 : Fin 5) t) (iblk T0 T1 hT m ρ c (3 : Fin 5) t)
  Φ t := Phi T0 T1 hT m ρ c t
  q _ := fullShare
  owed _ := 0

theorem after0 (c : Dev nD) (t : Fin (cfgA T0 T1 hT).N) : (dats T0 T1 hT m ρ 0 c).after (0 : Fin 5) t = iblk T0 T1 hT m ρ c (0 : Fin 5) t := rfl
theorem after1 (c : Dev nD) (t : Fin (cfgA T0 T1 hT).N) : (dats T0 T1 hT m ρ 0 c).after (1 : Fin 5) t = iblk T0 T1 hT m ρ c (1 : Fin 5) t := rfl
theorem after2 (c : Dev nD) (t : Fin (cfgA T0 T1 hT).N) : (dats T0 T1 hT m ρ 0 c).after (2 : Fin 5) t = iblk T0 T1 hT m ρ c (2 : Fin 5) t := rfl
theorem after3 (c : Dev nD) (t : Fin (cfgA T0 T1 hT).N) : (dats T0 T1 hT m ρ 0 c).after (3 : Fin 5) t = iblk T0 T1 hT m ρ c (3 : Fin 5) t := rfl
theorem after4 (c : Dev nD) (t : Fin (cfgA T0 T1 hT).N) : (dats T0 T1 hT m ρ 0 c).after (4 : Fin 5) t
    = tileOut T1 (crd T0 T1 hT t) (iblk T0 T1 hT m ρ c (0 : Fin 5) t) (iblk T0 T1 hT m ρ c (1 : Fin 5) t) (iblk T0 T1 hT m ρ c (2 : Fin 5) t) (iblk T0 T1 hT m ρ c (3 : Fin 5) t) := rfl

theorem before0 (c : Dev nD) (t : Fin (cfgA T0 T1 hT).N) (d) : (dats T0 T1 hT m ρ 0 c).before (0 : Fin 5) t d = iblk T0 T1 hT m ρ c (0 : Fin 5) t :=
  ((dats T0 T1 hT m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA T0 T1 hT).N) (d) : (dats T0 T1 hT m ρ 0 c).before (1 : Fin 5) t d = iblk T0 T1 hT m ρ c (1 : Fin 5) t :=
  ((dats T0 T1 hT m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA T0 T1 hT).N) (d) : (dats T0 T1 hT m ρ 0 c).before (2 : Fin 5) t d = iblk T0 T1 hT m ρ c (2 : Fin 5) t :=
  ((dats T0 T1 hT m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA T0 T1 hT).N) (d) : (dats T0 T1 hT m ρ 0 c).before (3 : Fin 5) t d = iblk T0 T1 hT m ρ c (3 : Fin 5) t :=
  ((dats T0 T1 hT m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at point `t` on its staging memrefs, as the pipeline calls it. -/
abbrev bodyAt (t : Fin (cfgA T0 T1 hT).N) : Prog (TpuEff nD τ sig (Elt F) Λ₀ .tc) PUnit :=
  cc0_moe_experts (crd T0 T1 hT t) tbM0 (Memref.isWhole_whole _) tbM1 (Memref.isWhole_whole _) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) scM0 (Memref.isWhole_whole _) scM1 (Memref.isWhole_whole _)

/-- One turn of the body at point `t`, from the scratches' contents before it. -/
theorem turn (c : Dev nD) (t : Fin (cfgA T0 T1 hT).N) (a0 : Buf (Elt F) ((c : Thread nD τ).loc cc0_scratch0)) (a1 : Buf (Elt F) ((c : Thread nD τ).loc cc0_scratch1))
    (ha : ∀ s : Fin (cfgA T0 T1 hT).N, s.val + 1 = t.val → k0_cond2 (crd T0 T1 hT s) (wUsed T1) = 1#1 →
        a0 = packGU (F := F) (iblk T0 T1 hT m ρ c (1 : Fin 5) s) (iblk T0 T1 hT m ρ c (2 : Fin 5) s) ∧ a1 = k0_pay3 (F := F) (iblk T0 T1 hT m ρ c (3 : Fin 5) s)) :
    ∃ (b0 : Buf (Elt F) ((c : Thread nD τ).loc cc0_scratch0)) (b1 : Buf (Elt F) ((c : Thread nD τ).loc cc0_scratch1)),
      (k0_cond2 (crd T0 T1 hT t) (wUsed T1) = 1#1 → b0 = packGU (F := F) (iblk T0 T1 hT m ρ c (1 : Fin 5) t) (iblk T0 T1 hT m ρ c (2 : Fin 5) t) ∧ b1 = k0_pay3 (F := F) (iblk T0 T1 hT m ρ c (3 : Fin 5) t))
      ∧ Turns c (ms0 T0 T1 hT t) (ms1 T0 T1 hT t) (ms2 T0 T1 hT t) (ms3 T0 T1 hT t) (ms4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1
          (tileOut T1 (crd T0 T1 hT t) (iblk T0 T1 hT m ρ c (0 : Fin 5) t) (iblk T0 T1 hT m ρ c (1 : Fin 5) t) (iblk T0 T1 hT m ρ c (2 : Fin 5) t) (iblk T0 T1 hT m ρ c (3 : Fin 5) t)) b0 b1
          (fun K => wp frame (wpE (defs₀ (F := F)) Variants.none c none) Set.univ (bodyAt T0 T1 hT t) K) := by
  by_cases h2 : k0_cond2 (crd T0 T1 hT t) (wUsed T1) = 1#1
  · have h3 : ¬ k0_cond3 (crd T0 T1 hT t) (wUsed T1) = 1#1 := by rw [cond3_iff, ← cond2_iff]; exact not_not.mpr h2
    have ho : ∀ x0 x1 x2 x3, tileOut T1 (crd T0 T1 hT t) x0 x1 x2 x3 = outUsed (F := F) x0 x1 x2 x3 := fun x0 x1 x2 x3 => if_pos h2
    by_cases hn : condNew (crd T0 T1 hT t) (wUsed T1) (wHere (crd T0 T1 hT t) T0) (wPrev (crd T0 T1 hT t) T0) = 1#1
    · refine ⟨_, _, fun _ => ⟨rfl, rfl⟩, ?_⟩
      rw [ho]
      exact turnsNew c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) T0 T1 _ _ _ _ a0 a1 hn h2 h3
    · have hu := (cond2_iff _ _).1 h2
      have hn' := hn
      rw [condNew_iff] at hn'
      have hz : (crd T0 T1 hT t 0).val ≠ 0 := fun h => hn' ⟨hu, .inl h⟩
      have hp : wHere (crd T0 T1 hT t) T0 = wPrev (crd T0 T1 hT t) T0 := by
        by_contra h; exact hn' ⟨hu, .inr h⟩
      rw [crd_val] at hz
      have hsv : (t.val - 1) + 1 = t.val := by omega
      let s : Fin (cfgA T0 T1 hT).N := ⟨t.val - 1, by have := t.isLt; omega⟩
      have hs : s.val + 1 = t.val := hsv
      have hse : wHere (crd T0 T1 hT t) T0 = wHere (crd T0 T1 hT s) T0 := hp.trans (wPrev_eq T0 _ _ (by rw [crd_val, crd_val]; exact hs))
      have hus : k0_cond2 (crd T0 T1 hT s) (wUsed T1) = 1#1 := by
        rw [cond2_iff, crd_val]; rw [crd_val] at hu; omega
      obtain ⟨e0, e1⟩ := ha s hs hus
      have f1 : iblk T0 T1 hT m ρ c (1 : Fin 5) s = iblk T0 T1 hT m ρ c (1 : Fin 5) t := by rw [iblk1, iblk1, hse]
      have f2 : iblk T0 T1 hT m ρ c (2 : Fin 5) s = iblk T0 T1 hT m ρ c (2 : Fin 5) t := by rw [iblk2, iblk2, hse]
      have f3 : iblk T0 T1 hT m ρ c (3 : Fin 5) s = iblk T0 T1 hT m ρ c (3 : Fin 5) t := by rw [iblk3, iblk3, hse]
      rw [f1, f2] at e0
      rw [f3] at e1
      refine ⟨a0, a1, fun _ => ⟨e0, e1⟩, ?_⟩
      rw [ho]
      have key := turnsSame c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 hn h2 h3
      have hout : k0_pay4 (F := F) (iblk T0 T1 hT m ρ c (0 : Fin 5) t) a0 a1 = outUsed (F := F) (iblk T0 T1 hT m ρ c (0 : Fin 5) t) (iblk T0 T1 hT m ρ c (1 : Fin 5) t) (iblk T0 T1 hT m ρ c (2 : Fin 5) t) (iblk T0 T1 hT m ρ c (3 : Fin 5) t) := by
        rw [e0, e1]; rfl
      exact hout ▸ key
  · have h3 : k0_cond3 (crd T0 T1 hT t) (wUsed T1) = 1#1 := by rw [cond3_iff, ← cond2_iff]; exact h2
    have hn : ¬ condNew (crd T0 T1 hT t) (wUsed T1) (wHere (crd T0 T1 hT t) T0) (wPrev (crd T0 T1 hT t) T0) = 1#1 := by
      rw [condNew_iff]; rw [cond2_iff] at h2; exact fun h => h2 h.1
    have ho : ∀ x0 x1 x2 x3, tileOut T1 (crd T0 T1 hT t) x0 x1 x2 x3 = k0_pay5 (F := F) := fun x0 x1 x2 x3 => if_neg h2
    refine ⟨a0, a1, fun h => absurd h h2, ?_⟩
    rw [ho]
    exact turnsUnused c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) T0 T1 _ _ _ _ a0 a1 hn h2 h3

set_option maxHeartbeats 1000000 in
/-- THE BODY OBLIGATION at point `t`. -/
theorem sound_body (c : Dev nD) (t : Fin (cfgA T0 T1 hT).N) :
    iprop((dats T0 T1 hT m ρ 0 c).Φ t.castSucc ∗ (dats T0 T1 hT m ρ 0 c).owesAt () t.castSucc
        ∗ (∃ d, owns (c : Thread nD τ) (ms0 T0 T1 hT t) fullShare ((dats T0 T1 hT m ρ 0 c).before (0 : Fin 5) t d))
        ∗ (∃ d, owns (c : Thread nD τ) (ms1 T0 T1 hT t) fullShare ((dats T0 T1 hT m ρ 0 c).before (1 : Fin 5) t d))
        ∗ (∃ d, owns (c : Thread nD τ) (ms2 T0 T1 hT t) fullShare ((dats T0 T1 hT m ρ 0 c).before (2 : Fin 5) t d))
        ∗ (∃ d, owns (c : Thread nD τ) (ms3 T0 T1 hT t) fullShare ((dats T0 T1 hT m ρ 0 c).before (3 : Fin 5) t d))
        ∗ (∃ d, owns (c : Thread nD τ) (ms4 T0 T1 hT t) fullShare ((dats T0 T1 hT m ρ 0 c).before (4 : Fin 5) t d)))
      ⊢ wp frame (wpE (defs₀ (F := F)) Variants.none c none) Set.univ (bodyAt T0 T1 hT t) fun _ =>
          iprop((dats T0 T1 hT m ρ 0 c).Φ t.succ ∗ (dats T0 T1 hT m ρ 0 c).owesAt () t.succ
            ∗ bigSep Finset.univ fun w : Fin (cfgA T0 T1 hT).W =>
                match (cfgA T0 T1 hT).idle w ((cfgA T0 T1 hT).grid.coords t) with
                | true =>
                  match ((cfgA T0 T1 hT).win w).flush t with
                  | false => iprop(∃ d, owns (c : Thread nD τ) (((cfgA T0 T1 hT).win w).stage ((cfgA T0 T1 hT).slots t w)) fullShare ((dats T0 T1 hT m ρ 0 c).before w t d))
                  | true => owns (c : Thread nD τ) (((cfgA T0 T1 hT).win w).stage ((cfgA T0 T1 hT).slots t w)) fullShare ((dats T0 T1 hT m ρ 0 c).after w t)
                | false => owns (c : Thread nD τ) (((cfgA T0 T1 hT).win w).stage ((cfgA T0 T1 hT).slots t w)) fullShare ((dats T0 T1 hT m ρ 0 c).after w t)) := by
  rw [bigSep_W0]
  rewrite [show (cfgA T0 T1 hT).idle (4 : Fin 5) ((cfgA T0 T1 hT).grid.coords t) = false from idle4 T0 T1 (crd T0 T1 hT t)]
  simp only [before0, before1, before2, before3, after0, after1, after2, after3, after4]
  rewrite [show (dats T0 T1 hT m ρ 0 c).Φ t.succ = Phi T0 T1 hT m ρ c t.succ from rfl, show (dats T0 T1 hT m ρ 0 c).Φ t.castSucc = Phi T0 T1 hT m ρ c t.castSucc from rfl,
    show (dats T0 T1 hT m ρ 0 c).owesAt () t.succ = (dats T0 T1 hT m ρ 0 c).owesAt () t.castSucc from rfl]
  unfold Phi
  iintro ⟨⟨⟨%a0, %a1, %ha, HS0, HS1⟩, HT0, HT1⟩, Ho, ⟨%d0, H0⟩, ⟨%d1, H1⟩, ⟨%d2, H2⟩, ⟨%d3, H3⟩, ⟨%d4, H4⟩⟩
  obtain ⟨b0, b1, hb, htu⟩ := turn T0 T1 hT m ρ c t a0 a1 (fun s hs => ha s hs)
  iapply htu _
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  iintro ⟨H0, H1, H2, H3, HT0, HT1, H4, HS0, HS1⟩
  isplitl [HS0 HS1 HT0 HT1]
  · isplitl [HS0 HS1]
    · iexists b0; iexists b1; isplitr
      · ipureintro
        intro s hs hus
        have e : s = t := Fin.ext (by have : s.val + 1 = t.val + 1 := hs; omega)
        subst e
        exact hb hus
      isplitl [HS0]; · iexact HS0
      iexact HS1
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats T0 T1 hT m ρ 0 c) (defs₀ (F := F)) Variants.none () Set.univ := fun t => by
  rw [bigSep_W0]
  exact sound_body T0 T1 hT m ρ c t

end Cert.KernelIdeal.Moe

end
-- ==== Proof.Moe.Launch.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Body
public import proofs.«01_k».proof.Proof.Moe.TurnSame
public import proofs.«01_k».proof.Proof.Moe.TurnUnused
public import Idealize.ShloMosaic.Lib.Pipeline.ValueKit.Geometry
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T0 : S160.Idx → Elt F .i32) (T1 : S1.Idx → Elt F .i32) (hT : Exist T0)
variable (m : (ℓ : Loc nD τ sig) → Buf (Elt F) ℓ) (ρ : Dev nD → PrngReg)

/-- The launch memory holds the two tables. -/
def Held (m : (ℓ : Loc nD τ sig) → Buf (Elt F) ℓ) : Prop :=
  (∀ c : Dev nD, m ((c : Thread nD τ).loc main_arg0) = T0)
  ∧ (∀ c : Dev nD, m ((c : Thread nD τ).loc main_arg1) = T1)

/-- The rounds library's launch element. -/
def u₀ : UR sig nD τ :=
  initOf (Pipeline.cells (pcs T0 T1 hT) ((launch0 (F := F)).cellOf_inj fun _ => adm T0 T1 hT))
    (Pipeline.launchToks (pcs T0 T1 hT) ((launch0 (F := F)).cellOf_inj fun _ => adm T0 T1 hT))

theorem share_eq (c : Dev nD) (w : Fin (cfgA T0 T1 hT).W) : (dats T0 T1 hT m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T0 T1 hT).1 ∗ Pipeline.scopedRest spec0 c) ⊢ (dats T0 T1 hT m ρ 0 c).Φ 0 := by
  rw [prefHeld_eq, scopedRest0_eq, show (dats T0 T1 hT m ρ 0 c).Φ 0 = Phi T0 T1 hT m ρ c 0 from rfl]
  unfold Phi
  iintro ⟨-, ⟨HT0, HT1⟩, ⟨%a0, HS0⟩, ⟨%a1, HS1⟩⟩
  isplitl [HS0 HS1]
  · iexists a0; iexists a1; isplitr
    · ipureintro; intro s hs; exact absurd hs (Nat.succ_ne_zero _)
    isplitl [HS0]; · iexact HS0
    iexact HS1
  isplitl [HT0]; · iexact HT0
  iexact HT1

/-- at the last point it gives the scratch buffers back (`hout`), the tables let go. -/
theorem phiN_exit (c : Dev nD) : (dats T0 T1 hT m ρ 0 c).Φ (Fin.last (cfgA T0 T1 hT).N) ⊢ iprop(BI.emp ∗ Pipeline.scopedRest spec0 c) := by
  rw [scopedRest0_eq, show (dats T0 T1 hT m ρ 0 c).Φ (Fin.last (cfgA T0 T1 hT).N) = Phi T0 T1 hT m ρ c (Fin.last _) from rfl]
  unfold Phi
  iintro ⟨⟨%a0, %a1, -, HS0, HS1⟩, -, -⟩
  isplitr; · iempintro
  isplitl [HS0]
  · iexists a0; iexact HS0
  iexists a1; iexact HS1

/-- The physical post: every array at what the library computes, every table at what the pipeline ran at. -/
def QC : PUnit × MemSt nD τ sig (Elt F) → Prop := fun r =>
  ∀ c : Dev nD, (∀ w : Fin (cfgA T0 T1 hT).W, r.2.mem (((cfgA T0 T1 hT).win w).arr.view.loc (c : Thread nD τ)) = (dats T0 T1 hT m ρ 0 c).arrAt w (cfgA T0 T1 hT).N)
    ∧ ∀ j, r.2.mem ((c : Thread nD τ).loc (pre0.ref j)) = (adm T0 T1 hT).1 j

theorem V_pre (hp : Held T0 T1 m) (c : Dev nD) (j : Fin 2) : m ((c : Thread nD τ).loc (pre0.ref j)) = (adm T0 T1 hT).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Held T0 T1 m) : θ_run (defs (F := F)) (onTc (τ := τ) (main (F := F))) (s₀ m ρ) (fun r => QC T0 T1 hT m ρ r ∧ r.2.sem = fun _ => 0) :=
  Pipeline.θ_run_region_noSem_pf_quiescent pcfgs (fun _ => adm T0 T1 hT) (dats T0 T1 hT m ρ) () ((launch0 (F := F)).cellOf_inj fun _ => adm T0 T1 hT) (0 : Fin 1)
    (launch0 (F := F)).win.to₀ (launch0 (F := F)).pre EP defs₀ Variants.none m ρ main
    (hbody := fun c => (body_obligation T0 T1 hT m ρ c).loose) (hne := (launch0 (F := F)).block_pos)
    (harr := (launch0 (F := F)).arr_whole) (hstage := (launch0 (F := F)).stage_whole) (howed := fun _ _ => rfl)
    (u₀ := u₀ T0 T1 hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hT) (dats T0 T1 hT m ρ) 0 (launch0 (F := F)).win.arr_inj c (launch0 (F := F)).arr_whole
      (share_eq T0 T1 hT m ρ c) _ _ fun _ => rfl)
    (hpf := V_pre T0 T1 hT m hp)
    (X := fun _ => iprop(emp)) (Y := fun _ => iprop(emp)) (Z := fun _ => iprop(emp))
    (hX := fun c => by rw [unscopedRestP0_eq]; iintro -; isplitr <;> iempintro)
    (hin := phi0_intro T0 T1 hT m ρ)
    (hout := phiN_exit T0 T1 hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged and the result array at what the tiles left. -/
theorem values (hp : Held T0 T1 m) :
    θ_run (defs (F := F)) (onTc (τ := τ) (main (F := F))) ⟨m, fun _ => 0, ρ⟩ (fun r => (∀ c : Dev nD,
      r.2.mem ((c.tc : Thread nD τ).loc main_v0) = (dats T0 T1 hT m ρ 0 c).arrAt (4 : Fin 5) (cfgA T0 T1 hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp.1 c).symm, ((h.1 c).2 1).trans (hp.2 c).symm, ((h.1 c).1 (0 : Fin 5)).trans ((dats T0 T1 hT m ρ 0 c).arrAt_in (0 : Fin 5) rfl _), ((h.1 c).1 (1 : Fin 5)).trans ((dats T0 T1 hT m ρ 0 c).arrAt_in (1 : Fin 5) rfl _), ((h.1 c).1 (2 : Fin 5)).trans ((dats T0 T1 hT m ρ 0 c).arrAt_in (2 : Fin 5) rfl _), ((h.1 c).1 (3 : Fin 5)).trans ((dats T0 T1 hT m ρ 0 c).arrAt_in (3 : Fin 5) rfl _)⟩, h.2⟩) (run_main_quiescent T0 T1 hT m ρ hp)

include hT in
/-- THE FRAME: from tables whose experts exist, every weakly fair execution terminates, nothing faults, every argument array
    ends unchanged and every semaphore counter of the machine reads zero at every final state. -/
theorem frame (hp : Held T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (values T0 T1 hT m ρ hp)

end Cert.KernelIdeal.Moe

end
-- ==== Proof.Moe.Out.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Launch
public import proofs.«01_k».proof.Proof.Moe.TurnSame
public import proofs.«01_k».proof.Proof.Moe.TurnUnused
public import Idealize.ShloMosaic.Lib.Pipeline.ValueKit.Geometry
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T0 : S160.Idx → Elt F .i32) (T1 : S1.Idx → Elt F .i32) (hT : Exist T0)
variable (m : (ℓ : Loc nD τ sig) → Buf (Elt F) ℓ) (ρ : Dev nD → PrngReg)

/-- The tile a row lies in, and the row's place there. -/
def tileOf (j : S81920x1024.Idx) : grid0.Coords := fun | ⟨0, _⟩ => (⟨(j 0).val / 512, Nat.div_lt_of_lt_mul (show (j 0).val < 512 * 160 from (j 0).isLt)⟩ : Fin 160) | ⟨_ + 1, h⟩ => absurd h (by simp [grid0])
def rowIn (j : S81920x1024.Idx) : S512x1024.Idx := fun | ⟨0, _⟩ => (⟨(j 0).val % 512, Nat.mod_lt _ (by decide)⟩ : Fin 512) | ⟨1, _⟩ => (j 1 : Fin 1024) | ⟨_ + 2, h⟩ => absurd h (by simp)

/-- The result array, element by element: the row's tile's output at the row's place. -/
def result (X : S81920x1024.Idx → Elt F .bf16) (G U : S32x1024x256.Idx → Elt F .f32) (D : S32x256x1024.Idx → Elt F .f32) : S81920x1024.Idx → Elt F .bf16 := fun j =>
  tileOut T1 (tileOf j) (xblk X (tileOf j)) (wblk G (wHere (tileOf j) T0).toNat) (wblk U (wHere (tileOf j) T0).toNat) (dblk D (wHere (tileOf j) T0).toNat) (rowIn j)

abbrev gridP : Type := Fin grid0.N

theorem index4 (t : Fin (cfgA T0 T1 hT).N) : ((cfgA T0 T1 hT).win (4 : Fin 5)).index t (0 : Fin 2) = t.val := by
  show (BitVec.ofNat 32 (crd T0 T1 hT t 0).val).toNat = t.val
  rw [tr0_val, crd_val]

/-- The output's blocks, one per tile, cover the array. -/
theorem covers4 : ((cfgA T0 T1 hT).win (4 : Fin 5)).Covers := by
  refine ⟨fun a => by fin_cases a <;> exact Nat.succ_pos _, fun β => ?_⟩
  have h0 : (β (0 : Fin 2)).val < 160 := Nat.lt_of_lt_of_eq (β (0 : Fin 2)).isLt (show (81920 + 512 - 1) / 512 = 160 by decide)
  have h1 : (β (1 : Fin 2)).val < 1 := Nat.lt_of_lt_of_eq (β (1 : Fin 2)).isLt (show (1024 + 1024 - 1) / 1024 = 1 by decide)
  let t : Fin (cfgA T0 T1 hT).N := (⟨(β (0 : Fin 2)).val, h0⟩ : Fin 160)
  refine ⟨t, ?_, fun a => ⟨?_, .inl rfl⟩⟩
  · rw [Window.flush_eq_flushF]
    unfold Window.flushF
    have ho : ((cfgA T0 T1 hT).win (4 : Fin 5)).isOut = true := rfl
    rw [ho, Bool.true_and]
    by_cases hN : t.val + 1 = (cfgA T0 T1 hT).N
    · simp [hN]
    · have hlt : t.val + 1 < (cfgA T0 T1 hT).N := Nat.lt_of_le_of_ne t.isLt hN
      rw [Bool.or_eq_true]; right
      refine decide_eq_true ⟨hlt, (0 : Fin 2), ?_⟩
      rw [index4, index4]
      exact Nat.succ_ne_self _
  · fin_cases a
    · exact index4 T0 T1 hT t
    · show 0 = (β (1 : Fin 2)).val
      omega

/-- The result array at the end of the run. -/
theorem final (c : Dev nD) : (dats T0 T1 hT m ρ 0 c).arrAt (4 : Fin 5) (cfgA T0 T1 hT).N
    = result T0 T1 (m ((c : Thread nD τ).loc main_arg2)) (m ((c : Thread nD τ).loc main_arg3)) (m ((c : Thread nD τ).loc main_arg4)) (m ((c : Thread nD τ).loc main_arg5)) := by
  refine (dats T0 T1 hT m ρ 0 c).arrAt_eq_of_covers (4 : Fin 5) _ (covers4 T0 T1 hT) fun t _ y => ?_
  rw [after4, iblk0, iblk1, iblk2, iblk3]
  have hy0 : (y 0).val < 512 := (y 0).isLt
  have e0 : ((((cfgA T0 T1 hT).win (4 : Fin 5)).blk t).view.emb y 0).val = t.val * 512 + (y 0).val := by
    show (BitVec.ofNat 32 (crd T0 T1 hT t 0).val).toNat * 512 + 1 * (y 0).val = _
    rw [tr0_val, crd_val]; omega
  have e1 : ((((cfgA T0 T1 hT).win (4 : Fin 5)).blk t).view.emb y 1).val = (y 1).val := by
    show 0 * 1024 + 1 * (y 1).val = _
    omega
  have ht : tileOf ((((cfgA T0 T1 hT).win (4 : Fin 5)).blk t).view.emb y) = crd T0 T1 hT t := by
    funext a; apply Fin.ext
    fin_cases a
    show ((((cfgA T0 T1 hT).win (4 : Fin 5)).blk t).view.emb y 0).val / 512 = (crd T0 T1 hT t 0).val
    rw [e0, crd_val]; omega
  have hr : rowIn ((((cfgA T0 T1 hT).win (4 : Fin 5)).blk t).view.emb y) = y := by
    funext a; apply Fin.ext
    fin_cases a
    · show ((((cfgA T0 T1 hT).win (4 : Fin 5)).blk t).view.emb y 0).val % 512 = (y 0).val
      rw [e0]; omega
    · exact e1
  unfold result
  rw [ht, hr]
  rfl

end Cert.KernelIdeal.Moe

end
-- ==== Proof.Moe.Refer.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Moe.Tile
public import proofs.«01_k».proof.Proof.Moe.Out
public import proofs.«01_k».proof.Proof.Gen.ReferenceIdeal.Run
public import proofs.«01_k».proof.Proof.Gen.ReferenceIdeal.Read
public import Idealize.ShloMosaic.Lib.Pipeline.ValueKit.Geometry
public import Idealize.ShloMosaic.Lib.VecWindow
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.ReferenceIdeal.Read

/-- A truth bit as a number. -/
theorem bit_one {b : BitVec 1} (h : b = 1#1) : FloatOps.uitofp (F := Ideal) .f32 b = (1 : EReal) := by
  subst h; show (((1#1 : BitVec 1).toNat : ℝ) : EReal) = 1; simp
theorem bit_zero {b : BitVec 1} (h : ¬ b = 1#1) : FloatOps.uitofp (F := Ideal) .f32 b = (0 : EReal) := by
  have h0 : b = 0#1 := by revert b; decide
  subst h0; show (((0#1 : BitVec 1).toNat : ℝ) : EReal) = 0; simp

theorem one_word : Ideal.ofBits .f32 0x3F800000#32 = 1 := by simp [pointwise]

/-- The row's tile is in use. -/
def InUse (T1 : S1.Idx → BitVec 32) (i : ℕ) : Prop := (i : ℤ) < (T1 (ix1 (0 : Fin 1))).toInt

theorem toInt_ofNat {i : ℕ} (h : i < 160) : (BitVec.ofNat 32 i).toInt = (i : ℤ) := by
  rw [BitVec.toInt_eq_toNat_of_lt] <;> rw [BitVec.toNat_ofNat, Nat.mod_eq_of_lt (by omega)]; omega

/-- The reference's gates: the one-hot of the tile's expert, zero for an unused tile. -/
theorem gate_apply (T0 : S160.Idx → BitVec 32) (T1 : S1.Idx → BitVec 32) (j : Fin 81920) (e : Fin 32) :
    val_main_v13 (F := Ideal) T0 T1 (ix2 j e)
      = FloatOps.uitofp (F := Ideal) .f32 (IntOp.cmpi .eq (T0 (ix1 (⟨j.val / 512, by omega⟩ : Fin 160))) (BitVec.ofNat 32 e.val))
        * FloatOps.uitofp (F := Ideal) .f32 (IntOp.cmpi .slt (BitVec.ofNat 32 (j.val / 512)) (T1 (ix1 (0 : Fin 1)))) := by
  unfold val_main_v13 val_main_v9 val_main_call0_v4 val_main_call0_v3 val_main_call0_v2  val_main_call0_v1 val_main_call0_v0 val_main_v12 val_main_v11 val_main_v10 val_main_v8 val_main_v7 val_main_v6 val_main_v5 val_main_v4 val_main_v3 val_main_v2 val_main_v1
  simp only [pointwise]
  rfl

theorem gate_used (T0 : S160.Idx → BitVec 32) (T1 : S1.Idx → BitVec 32) (j : Fin 81920) (e E : Fin 32)
    (hE : (T0 (ix1 (⟨j.val / 512, by omega⟩ : Fin 160))).toNat = E.val) (hu : InUse T1 (j.val / 512)) :
    val_main_v13 (F := Ideal) T0 T1 (ix2 j e) = if e = E then 1 else 0 := by
  rw [gate_apply, bit_one (IntOp.cmpi_slt.mpr (by rw [toInt_ofNat (by omega)]; exact hu)), mul_one]
  split
  · rename_i h
    subst h
    refine bit_one (IntOp.cmpi_eq.mpr ?_)
    rw [← hE, BitVec.ofNat_toNat, BitVec.setWidth_eq]
  · rename_i h
    refine bit_zero fun hh => h (Fin.ext ?_)
    rw [← hE, IntOp.cmpi_eq.mp hh, BitVec.toNat_ofNat, Nat.mod_eq_of_lt (by omega)]

theorem gate_unused (T0 : S160.Idx → BitVec 32) (T1 : S1.Idx → BitVec 32) (j : Fin 81920) (e : Fin 32) (hu : ¬ InUse T1 (j.val / 512)) :
    val_main_v13 (F := Ideal) T0 T1 (ix2 j e) = 0 := by
  rw [gate_apply, bit_zero (b := IntOp.cmpi .slt _ _) (fun h => hu (by have := IntOp.cmpi_slt.mp h; rwa [toInt_ofNat (by omega)] at this)), mul_zero]

variable (T0 : S160.Idx → BitVec 32) (T1 : S1.Idx → BitVec 32) (X : S81920x1024.Idx → Elt Ideal .bf16) (G U : S32x1024x256.Idx → Elt Ideal .f32) (D : S32x256x1024.Idx → Elt Ideal .f32)

/-- The reference's result: every expert's output at the row, by its gate. -/
theorem reference_apply (j : Fin 81920) (c : Fin 1024) :
    val_main_v22 (F := Ideal) T0 T1 X G U D (ix2 j c)
      = ∑ e : Fin 32, ∑ f : Fin 256, hidden (∑ k : Fin 1024, X (ix2 j k) * G (ix3 e k f)) (∑ k : Fin 1024, X (ix2 j k) * U (ix3 e k f)) * val_main_v13 (F := Ideal) T0 T1 (ix2 j e) * D (ix3 e f c) := by
  unfold val_main_v22 val_main_v21 val_main_v20 val_main_v19 val_main_v18 val_main_v17 val_main_v16 val_main_call1_v5 val_main_call1_v4 val_main_call1_v3 val_main_call1_v2 val_main_call1_v1 val_main_call1_v0 val_main_call1_cst val_main_call1_cst_0 val_main_v15 val_main_v14 val_main_v0
  simp only [pointwise, zero_add]
  rfl

/-- The sum over the experts is the tile's expert's term. -/
theorem reference_used (j : Fin 81920) (c : Fin 1024) (E : Fin 32)
    (hE : (T0 (ix1 (⟨j.val / 512, by omega⟩ : Fin 160))).toNat = E.val) (hu : InUse T1 (j.val / 512)) :
    val_main_v22 (F := Ideal) T0 T1 X G U D (ix2 j c)
      = ∑ f : Fin 256, hidden (∑ k : Fin 1024, X (ix2 j k) * G (ix3 E k f)) (∑ k : Fin 1024, X (ix2 j k) * U (ix3 E k f)) * D (ix3 E f c) := by
  rw [reference_apply, Finset.sum_eq_single E]
  · refine Finset.sum_congr rfl fun f _ => ?_
    rw [gate_used T0 T1 j E E hE hu, if_pos rfl, mul_one]
  · intro e _ he
    refine Finset.sum_eq_zero fun f _ => ?_
    rw [gate_used T0 T1 j e E hE hu, if_neg he, mul_zero, zero_mul]
  · exact fun h => absurd (Finset.mem_univ E) h

theorem reference_unused (j : Fin 81920) (c : Fin 1024) (hu : ¬ InUse T1 (j.val / 512)) :
    val_main_v22 (F := Ideal) T0 T1 X G U D (ix2 j c) = 0 := by
  rw [reference_apply]
  refine Finset.sum_eq_zero fun e _ => Finset.sum_eq_zero fun f _ => ?_
  rw [gate_unused T0 T1 j e hu, mul_zero, zero_mul]

/-- The kernel's result array is the reference's. -/
theorem result_eq (hT : Exist (F := Ideal) T0) : result (F := Ideal) T0 T1 X G U D = val_main_v22 (F := Ideal) T0 T1 X G U D := by
  funext i
  obtain ⟨j, c, rfl⟩ : ∃ (j : Fin 81920) (c : Fin 1024), i = ix2 j c := ⟨i 0, i 1, by funext a; fin_cases a <;> rfl⟩
  have hi : j.val / 512 < 160 := by omega
  have hw : wHere (F := Ideal) (tileOf (ix2 j c)) T0 = T0 (ix1 (⟨j.val / 512, hi⟩ : Fin 160)) := by
    show T0 _ = T0 _
    congr 1; funext a; apply Fin.ext
    fin_cases a
    show (BitVec.ofNat 32 (j.val / 512)).toNat + 1 * 0 = j.val / 512
    rw [BitVec.toNat_ofNat, Nat.mod_eq_of_lt (by omega)]; omega
  have hE := hT (ix1 (⟨j.val / 512, hi⟩ : Fin 160))
  unfold result tileOut
  have hc : k0_cond2 (tileOf (ix2 j c)) (wUsed (F := Ideal) T1) = 1#1 ↔ InUse T1 (j.val / 512) := by
    rw [cond2_iff]
    have h1 : wUsed (F := Ideal) T1 = T1 (ix1 (0 : Fin 1)) := by
      show T1 _ = T1 _
      congr 1; funext a; apply Fin.ext
      fin_cases a
      rfl
    rw [h1]
    rfl
  have hr : rowIn (ix2 j c) = ix2 (⟨j.val % 512, by omega⟩ : Fin 512) c := by
    funext a; fin_cases a <;> rfl
  by_cases hu : InUse T1 (j.val / 512)
  · rw [reference_used T0 T1 X G U D j c ⟨_, hE⟩ rfl hu, if_pos (hc.mpr hu), hr, outUsed_apply, hw]
    have hx : ∀ k : Fin 1024, xblk (F := Ideal) X (tileOf (ix2 j c)) (ix2 (⟨j.val % 512, by omega⟩ : Fin 512) k) = X (ix2 j k) := fun k => by
      unfold xblk; congr 1; funext a; apply Fin.ext
      fin_cases a
      · show j.val / 512 * 512 + j.val % 512 = j.val
        omega
      · rfl
    have hg : ∀ (A : S32x1024x256.Idx → Elt Ideal .f32) (k : Fin 1024) (f : Fin 256), wblk (F := Ideal) A (T0 (ix1 (⟨j.val / 512, hi⟩ : Fin 160))).toNat (ix3 0 k f) = A (ix3 (⟨_, hE⟩ : Fin 32) k f) := fun A k f => by
      unfold wblk; congr 1; funext a; apply Fin.ext
      fin_cases a
      · exact Nat.mod_eq_of_lt hE
      · rfl
      · rfl
    have hd : ∀ (f : Fin 256), dblk (F := Ideal) D (T0 (ix1 (⟨j.val / 512, hi⟩ : Fin 160))).toNat (ix3 0 f c) = D (ix3 (⟨_, hE⟩ : Fin 32) f c) := fun f => by
      unfold dblk; congr 1; funext a; apply Fin.ext
      fin_cases a
      · exact Nat.mod_eq_of_lt hE
      · rfl
      · rfl
    simp only [hx, hg, hd]
  · rw [reference_unused T0 T1 X G U D j c hu, if_neg (fun h => hu (hc.mp h)), pay5_apply]

end Cert.KernelIdeal.Moe

end
-- ==== Proof.Final.Tile.lean ====
module

public import proofs.«01_k».proof.Proof.Gen.Kernel2Ideal.Skeleton
public import Idealize.ShloMosaic.Lib.Pointwise

@[expose] public section

set_option maxRecDepth 16384

noncomputable section

namespace Cert.Kernel2Ideal.Final

open Cert.Kernel2Ideal Cert.Kernel2Ideal.Gen
open Idealize.ShloMosaic Idealize.ShloMosaic.TcCoe Idealize.SL.Sem

/-- One channel of a token before the norm: the residual plus the gate times the weighted pair of expert outputs. -/
def mixed (x g w0 w1 y0 y1 : EReal) : EReal := x + g * (w0 * y0 + w1 * y1)

/-- The root-mean-square norm of a row of 1024 channels, with its gain. -/
def normed (X G : Fin 1024 → EReal) (c : Fin 1024) : EReal :=
  X c * Ideal.rsqrt (Ideal.div (∑ k : Fin 1024, X k * X k) (Ideal.ofBits .f32 0x44800000#32) + Ideal.ofBits .f32 0x358637BD#32) * G c

/-- The body's arithmetic at a token and channel. -/
theorem pay_apply (w0 w1 : S1x512x1.Idx → Elt Ideal .f32) (y0 y1 : S1x512x1024.Idx → Elt Ideal .bf16) (x : S1x512x1024.Idx → Elt Ideal .f32)
    (g : S1x1x1024.Idx → Elt Ideal .f32) (G : S1x1024.Idx → Elt Ideal .f32) (r : Fin 512) (c : Fin 1024) :
    k0_pay1 (F := Ideal) (k0_pay2 w0 w1 y0 y1 x g G) (ix3 0 r c)
      = normed (fun k => mixed (x (ix3 0 r k)) (g (ix3 0 0 k)) (w0 (ix3 0 r 0)) (w1 (ix3 0 r 0)) (y0 (ix3 0 r k)) (y1 (ix3 0 r k))) (fun k => G (ix2 0 k)) c := by
  unfold k0_pay1 k0_pay2 normed mixed
  simp only [pointwise, zero_add]
  simp
  try rfl

end Cert.Kernel2Ideal.Final

end
-- ==== Proof.Final.Run.lean ====
module

public import proofs.«01_k».proof.Proof.Gen.Kernel2Ideal.Value
public import proofs.«01_k».proof.Proof.Final.Tile

@[expose] public section

set_option maxRecDepth 16384

noncomputable section

namespace Cert.Kernel2Ideal.Final

open Cert.Kernel2Ideal Cert.Kernel2Ideal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Column `k` of a block of the routing record. -/
def col (k : Fin 128) (R : Vec F S1x512x128 .f32) : Vec F S1x512x1 .f32 := fun y => R (ix3 (y 0) (y 1) k)

/-- What the run leaves in the output's staging buffer: the body's arithmetic of the input blocks. -/
theorem out_eq (c : Dev nD) (i : grid0.Coords) (arg2 : Memref sig .tc .vmem S1x1x1024 .f32) (h2 : arg2.IsWhole) (arg3 : Memref sig .tc .vmem S1x1024 .f32) (h3 : arg3.IsWhole) (arg4 : Memref sig .tc .vmem S1x512x1024 .f32) (h4 : arg4.IsWhole) (arg5 : Memref sig .tc .vmem S1x512x1024 .bf16) (h5 : arg5.IsWhole) (arg6 : Memref sig .tc .vmem S1x512x1024 .bf16) (h6 : arg6.IsWhole) (arg7 : Memref sig .tc .vmem S1x512x128 .f32) (h7 : arg7.IsWhole) (arg8 : Memref sig .tc .vmem S1x512x1024 .f32) (h8 : arg8.IsWhole) (hc0 : cond0_0 i)
    (x0 : Vec F S1x1x1024 .f32) (x1 : Vec F S1x1024 .f32) (x2 : Vec F S1x512x1024 .f32) (x3 : Vec F S1x512x1024 .bf16) (x4 : Vec F S1x512x1024 .bf16) (x5 : Vec F S1x512x128 .f32) :
    out0_A_6 c i arg2 h2 arg3 h3 arg4 h4 arg5 h5 arg6 h6 arg7 h7 arg8 h8 hc0 x0 x1 x2 x3 x4 x5
      = k0_pay1 (k0_pay2 (col 2 x5) (col 3 x5) x3 x4 x2 x0 x1) := by
  unfold out0_A_6
  rw [View.read_writes_junk_eq_canon]
  show View.canon ([⟨Rect.unit (s := S1x512x1024) ![0, 0, 0] S1x512x1024.size inb_S1x512x1024_S1x512x1024_0_0_0,
      k0_pay1 (k0_pay2
        (View.readAt (Elt F) arg7.view (Rect.unit (s := S1x512x128) ![0, 0, 2] S1x512x1.size inb_S1x512x128_S1x512x1_0_0_2).toLoadRect (h7.unread x5))
        (View.readAt (Elt F) arg7.view (Rect.unit (s := S1x512x128) ![0, 0, 3] S1x512x1.size inb_S1x512x128_S1x512x1_0_0_3).toLoadRect (h7.unread x5))
        (View.readAt (Elt F) arg5.view (Rect.unit (s := S1x512x1024) ![0, 0, 0] S1x512x1024.size inb_S1x512x1024_S1x512x1024_0_0_0).toLoadRect (h5.unread x3))
        (View.readAt (Elt F) arg6.view (Rect.unit (s := S1x512x1024) ![0, 0, 0] S1x512x1024.size inb_S1x512x1024_S1x512x1024_0_0_0).toLoadRect (h6.unread x4))
        (View.readAt (Elt F) arg4.view (Rect.unit (s := S1x512x1024) ![0, 0, 0] S1x512x1024.size inb_S1x512x1024_S1x512x1024_0_0_0).toLoadRect (h4.unread x2))
        (View.readAt (Elt F) arg2.view (Rect.unit (s := S1x1x1024) ![0, 0, 0] S1x1x1024.size inb_S1x1x1024_S1x1x1024_0_0_0).toLoadRect (h2.unread x0))
        (View.readAt (Elt F) arg3.view (Rect.unit (s := S1x1024) ![0, 0] S1x1024.size inb_S1x1024_S1x1024_0_0).toLoadRect (h3.unread x1)))⟩] :
      List (View.Piece (Elt F) S1x512x1024 .f32)) = _
  rw [View.canon_unit_zero hz3]
  simp only [View.readAt_eq_ld]
  rw [h2.read_unread, h3.read_unread, h4.read_unread, h5.read_unread, h6.read_unread, h7.read_unread]
  rw [View.ld_unit_zero (S := S1x512x1024) hz3, View.ld_unit_zero (S := S1x512x1024) hz3, View.ld_unit_zero (S := S1x512x1024) hz3, View.ld_unit_zero (S := S1x1x1024) hz3, View.ld_unit_zero (S := S1x1024) hz2]
  have e2 : View.ld x5 (Rect.unit (s := S1x512x128) ![0, 0, 2] S1x512x1.size inb_S1x512x128_S1x512x1_0_0_2) = col 2 x5 := by
    funext y
    refine congrArg x5 (funext fun a => Fin.ext ?_)
    have hy : (y 2).val < 1 := (y 2).isLt
    match a with
    | ⟨0, _⟩ => show 0 + 1 * (y 0).val = (y 0).val; omega
    | ⟨1, _⟩ => show 0 + 1 * (y 1).val = (y 1).val; omega
    | ⟨2, _⟩ => show 2 + 1 * (y 2).val = 2; omega
  have e3 : View.ld x5 (Rect.unit (s := S1x512x128) ![0, 0, 3] S1x512x1.size inb_S1x512x128_S1x512x1_0_0_3) = col 3 x5 := by
    funext y
    refine congrArg x5 (funext fun a => Fin.ext ?_)
    have hy : (y 2).val < 1 := (y 2).isLt
    match a with
    | ⟨0, _⟩ => show 0 + 1 * (y 0).val = (y 0).val; omega
    | ⟨1, _⟩ => show 0 + 1 * (y 1).val = (y 1).val; omega
    | ⟨2, _⟩ => show 3 + 1 * (y 2).val = 3; omega
  rw [← e2, ← e3]

end Cert.Kernel2Ideal.Final

end
-- ==== Proof.Final.Out.lean ====
module

public import proofs.«01_k».proof.Proof.Final.Run

@[expose] public section

set_option maxRecDepth 16384

noncomputable section

namespace Cert.Kernel2Ideal.Final

open Cert.Kernel2Ideal Cert.Kernel2Ideal.Gen
open Idealize.ShloMosaic Idealize.ShloMosaic.TcCoe Idealize.SL.Sem

variable (m : (ℓ : Loc nD τ sig) → Buf (Elt Ideal) ℓ) (ρ : Dev nD → PrngReg)

/-- The batch element of a grid point. -/
def bat (t : Fin cfg0.N) : Fin 8 := ⟨t.val / 8, Nat.div_lt_of_lt_mul (show t.val < 8 * 8 from t.isLt)⟩
/-- The token of a grid point's row. -/
def tok (t : Fin cfg0.N) (r : Fin 512) : Fin 4096 := ⟨t.val % 8 * 512 + r.val, by have := r.isLt; have := Nat.mod_lt t.val (show 0 < 8 by decide); omega⟩

theorem idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)
theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
theorem idx5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)
theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)

/-! ## Each window's block, read at a row and column -/

theorem blk2 (c : Dev nD) (t : Fin cfg0.N) (r : Fin 512) (k : Fin 1024) :
    iblk m c 2 t (ix3 0 r k : S1x512x1024.Idx) = V m c main_arg0 (ix3 (bat t) (tok t r) k : S8x4096x1024.Idx) := by
  obtain ⟨e0, e1, e2⟩ := idx2 t
  refine congrArg (V m c main_arg0) (funext fun a => Fin.ext ?_)
  match a with
  | ⟨0, _⟩ => show win0_2.index t (0 : Fin 3) * 1 + 1 * 0 = t.val / 8; omega
  | ⟨1, _⟩ => show win0_2.index t (1 : Fin 3) * 512 + 1 * r.val = t.val % 8 * 512 + r.val; omega
  | ⟨2, _⟩ => show win0_2.index t (2 : Fin 3) * 1024 + 1 * k.val = k.val; omega
theorem blk3 (c : Dev nD) (t : Fin cfg0.N) (r : Fin 512) (k : Fin 1024) :
    iblk m c 3 t (ix3 0 r k : S1x512x1024.Idx) = V m c main_v9 (ix3 (bat t) (tok t r) k : S8x4096x1024.Idx) := by
  obtain ⟨e0, e1, e2⟩ := idx3 t
  refine congrArg (V m c main_v9) (funext fun a => Fin.ext ?_)
  match a with
  | ⟨0, _⟩ => show win0_3.index t (0 : Fin 3) * 1 + 1 * 0 = t.val / 8; omega
  | ⟨1, _⟩ => show win0_3.index t (1 : Fin 3) * 512 + 1 * r.val = t.val % 8 * 512 + r.val; omega
  | ⟨2, _⟩ => show win0_3.index t (2 : Fin 3) * 1024 + 1 * k.val = k.val; omega
theorem blk4 (c : Dev nD) (t : Fin cfg0.N) (r : Fin 512) (k : Fin 1024) :
    iblk m c 4 t (ix3 0 r k : S1x512x1024.Idx) = V m c main_v19 (ix3 (bat t) (tok t r) k : S8x4096x1024.Idx) := by
  obtain ⟨e0, e1, e2⟩ := idx4 t
  refine congrArg (V m c main_v19) (funext fun a => Fin.ext ?_)
  match a with
  | ⟨0, _⟩ => show win0_4.index t (0 : Fin 3) * 1 + 1 * 0 = t.val / 8; omega
  | ⟨1, _⟩ => show win0_4.index t (1 : Fin 3) * 512 + 1 * r.val = t.val % 8 * 512 + r.val; omega
  | ⟨2, _⟩ => show win0_4.index t (2 : Fin 3) * 1024 + 1 * k.val = k.val; omega
theorem blk5 (c : Dev nD) (t : Fin cfg0.N) (r : Fin 512) (k : Fin 128) :
    iblk m c 5 t (ix3 0 r k : S1x512x128.Idx) = V m c main_arg3 (ix3 (bat t) (tok t r) k : S8x4096x128.Idx) := by
  obtain ⟨e0, e1, e2⟩ := idx5 t
  refine congrArg (V m c main_arg3) (funext fun a => Fin.ext ?_)
  match a with
  | ⟨0, _⟩ => show win0_5.index t (0 : Fin 3) * 1 + 1 * 0 = t.val / 8; omega
  | ⟨1, _⟩ => show win0_5.index t (1 : Fin 3) * 512 + 1 * r.val = t.val % 8 * 512 + r.val; omega
  | ⟨2, _⟩ => show win0_5.index t (2 : Fin 3) * 128 + 1 * k.val = k.val; omega
theorem blk0 (c : Dev nD) (t : Fin cfg0.N) (k : Fin 1024) :
    iblk m c 0 t (ix3 0 0 k : S1x1x1024.Idx) = V m c main_arg4 (ix3 (bat t) 0 k : S8x1x1024.Idx) := by
  obtain ⟨e0, e1, e2⟩ := idx0 t
  refine congrArg (V m c main_arg4) (funext fun a => Fin.ext ?_)
  match a with
  | ⟨0, _⟩ => show win0_0.index t (0 : Fin 3) * 1 + 1 * 0 = t.val / 8; omega
  | ⟨1, _⟩ => show win0_0.index t (1 : Fin 3) * 1 + 1 * 0 = 0; omega
  | ⟨2, _⟩ => show win0_0.index t (2 : Fin 3) * 1024 + 1 * k.val = k.val; omega
theorem blk1 (c : Dev nD) (t : Fin cfg0.N) (k : Fin 1024) :
    iblk m c 1 t (ix2 0 k : S1x1024.Idx) = V m c main_v20 (ix2 0 k : S1x1024.Idx) := by
  obtain ⟨e0, e1⟩ := idx1 t
  refine congrArg (V m c main_v20) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-! ## The result array -/

/-- The result array, element by element, of the arrays the pipelined call finds. -/
def result (X : S8x4096x1024.Idx → Elt Ideal .f32) (Y0 Y1 : S8x4096x1024.Idx → Elt Ideal .bf16) (R : S8x4096x128.Idx → Elt Ideal .f32)
    (g : S8x1x1024.Idx → Elt Ideal .f32) (G : S1x1024.Idx → Elt Ideal .f32) : S8x4096x1024.Idx → Elt Ideal .f32 := fun j =>
  normed (fun k => mixed (X (ix3 (j 0) (j 1) k)) (g (ix3 (j 0) 0 k)) (R (ix3 (j 0) (j 1) 2)) (R (ix3 (j 0) (j 1) 3))
    (Y0 (ix3 (j 0) (j 1) k)) (Y1 (ix3 (j 0) (j 1) k))) (fun k => G (ix2 0 k)) (j 2)

/-- The result at the arrays of core `c`. -/
abbrev found (c : Dev nD) : S8x4096x1024.Idx → Elt Ideal .f32 :=
  result (V m c main_arg0) (V m c main_v9) (V m c main_v19) (V m c main_arg3) (V m c main_arg4) (V m c main_v20)

/-- A place of the result's block in the array. -/
theorem emb6 (t : Fin cfg0.N) (y : S1x512x1024.Idx) :
    (((cfg0.win 6).blk t).view.emb y : S8x4096x1024.Idx) = ix3 (bat t) (tok t (y 1)) (y 2) := by
  obtain ⟨e0, e1, e2⟩ := idx6 t
  have hy : (y 0).val < 1 := (y 0).isLt
  funext a; apply Fin.ext
  match a with
  | ⟨0, _⟩ => show win0_6.index t (0 : Fin 3) * 1 + 1 * (y 0).val = t.val / 8; omega
  | ⟨1, _⟩ => show win0_6.index t (1 : Fin 3) * 512 + 1 * (y 1).val = t.val % 8 * 512 + (y 1).val; omega
  | ⟨2, _⟩ => show win0_6.index t (2 : Fin 3) * 1024 + 1 * (y 2).val = (y 2).val; omega

/-- The body's arithmetic of a point's input blocks, at a row and column. -/
theorem block_at (c : Dev nD) (t : Fin cfg0.N) (r : Fin 512) (k : Fin 1024) :
    k0_pay1 (F := Ideal) (k0_pay2 (col 2 (iblk m c 5 t)) (col 3 (iblk m c 5 t)) (iblk m c 3 t) (iblk m c 4 t) (iblk m c 2 t) (iblk m c 0 t) (iblk m c 1 t)) (ix3 0 r k)
      = found m c (ix3 (bat t) (tok t r) k) := by
  refine (pay_apply _ _ _ _ _ _ _ r k).trans ?_
  have c2 : ∀ q, col q (iblk m c 5 t) (ix3 0 r 0 : S1x512x1.Idx) = V m c main_arg3 (ix3 (bat t) (tok t r) q : S8x4096x128.Idx) := fun q => blk5 m c t r q
  show normed _ _ k = normed _ _ k
  refine congrArg₂ (fun X G => normed X G k) (funext fun q => ?_) (funext fun q => blk1 m c t q)
  rw [c2 2, c2 3]
  exact congr (congr (congrArg₂ (fun x g => mixed x g _ _) (blk2 m c t r q) (blk0 m c t q)) (blk3 m c t r q)) (blk4 m c t r q)

theorem block_eq (c : Dev nD) (t : Fin cfg0.N) (y : S1x512x1024.Idx) :
    k0_pay1 (F := Ideal) (k0_pay2 (col 2 (iblk m c 5 t)) (col 3 (iblk m c 5 t)) (iblk m c 3 t) (iblk m c 4 t) (iblk m c 2 t) (iblk m c 0 t) (iblk m c 1 t)) y
      = found m c (((cfg0.win 6).blk t).view.emb y) := by
  rw [emb6]
  have hy0 : y 0 = (0 : Fin 1) := Subsingleton.elim (α := Fin 1) _ _
  have hy : y = ix3 0 (y 1) (y 2) := by
    funext a
    match a with
    | ⟨0, _⟩ => exact hy0
    | ⟨1, _⟩ => rfl
    | ⟨2, _⟩ => rfl
  exact (congrArg (k0_pay1 (F := Ideal) _) hy).trans (block_at m c t (y 1) (y 2))

/-- What a point writes back is its block of the result. -/
theorem flushed_eq (c : Dev nD) (t : Fin cfg0.N) :
    (Cert.Kernel2Ideal.Gen.dats (F := Ideal) m 0 c).flushed 6 t = ((cfg0.win 6).blk t).view.read (Elt Ideal) (found m c) := by
  rw [Cert.Kernel2Ideal.Value.flushed6_A, out_eq]
  exact funext fun y => block_eq m c t y

/-- The points' blocks cover the result array. -/
theorem covered (j : S8x4096x1024.Idx) :
    ∃ t : Fin cfg0.N, (cfg0.win 6).flush t = true ∧ j ∈ ((cfg0.win 6).blk t).view.set := by
  have h0 : (j 0).val < 8 := (j 0).isLt
  have h1 : (j 1).val < 4096 := (j 1).isLt
  let t : Fin cfg0.N := (⟨(j 0).val * 8 + (j 1).val / 512, by omega⟩ : Fin 64)
  refine ⟨t, flush0_6 t, ?_⟩
  have h := ((cfg0.win 6).blk t).view.emb_mem_set (ix3 0 (⟨(j 1).val % 512, Nat.mod_lt _ (by decide)⟩ : Fin 512) (j 2) : S1x512x1024.Idx)
  rw [emb6] at h
  have e : (ix3 (bat t) (tok t (⟨(j 1).val % 512, Nat.mod_lt _ (by decide)⟩ : Fin 512)) (j 2) : S8x4096x1024.Idx) = j := by
    funext a; apply Fin.ext
    match a with
    | ⟨0, _⟩ => show ((j 0).val * 8 + (j 1).val / 512) / 8 = (j 0).val; omega
    | ⟨1, _⟩ => show ((j 0).val * 8 + (j 1).val / 512) % 8 * 512 + (j 1).val % 512 = (j 1).val; omega
    | ⟨2, _⟩ => rfl
  exact e ▸ h

/-- The result array at the end of the run. -/
theorem final (c : Dev nD) : (Cert.Kernel2Ideal.Gen.dats (F := Ideal) m 0 c).arrAt 6 cfg0.N = found m c :=
  (Cert.Kernel2Ideal.Gen.dats (F := Ideal) m 0 c).arrAt_eq_of_cover 6 (found m c) (fun t _ => flushed_eq m c t) covered

end Cert.Kernel2Ideal.Final

end
-- ==== Proof.Final.Dense.lean ====
module

public import proofs.«01_k».proof.Proof.Final.Tile
public import proofs.«01_k».proof.Proof.Gen.Reference2Ideal.Run
public import proofs.«01_k».proof.Proof.Gen.Reference2Ideal.Read

@[expose] public section

set_option maxRecDepth 16384

noncomputable section

namespace Cert.Kernel2Ideal.Final

open Cert.Kernel2Ideal Cert.Kernel2Ideal.Gen
open Idealize.ShloMosaic Idealize.ShloMosaic.TcCoe Idealize.SL.Sem

open Cert.Reference2Ideal.Read

/-- The reference's result at a token and channel. -/
theorem ref_apply (x0 : S8x4096x1024.Idx → Elt Ideal .f32) (x1 : S81920x1024.Idx → Elt Ideal .bf16) (x2 : S2x32768.Idx → BitVec 32)
    (x3 : S8x4096x128.Idx → Elt Ideal .f32) (x4 : S8x1x1024.Idx → Elt Ideal .f32) (x5 : S1024.Idx → Elt Ideal .f32) (b : Fin 8) (l : Fin 4096) (c : Fin 1024) :
    val_main_v44 (F := Ideal) x0 x1 x2 x3 x4 x5 (ix3 b l c)
      = normed (fun k => mixed (x0 (ix3 b l k)) (x4 (ix3 b 0 k)) (x3 (ix3 b l 2)) (x3 (ix3 b l 3))
          (val_main_v10 (F := Ideal) x1 x2 (ix3 b l k)) (val_main_v21 (F := Ideal) x1 x2 (ix3 b l k))) (fun k => x5 (ix1 k)) c := by
  unfold val_main_v44 val_main_v43 val_main_v42 val_main_v41 val_main_v40 val_main_v39 val_main_v38 val_main_v37 val_main_cst_4 val_main_v36 val_main_v35 val_main_cst_3 val_main_v34 val_main_v33 val_main_cst val_main_v32 val_main_v31 val_main_v30 val_main_v29 val_main_v28 val_main_v27 val_main_v26 val_main_v25 val_main_v24 val_main_v23 val_main_v22 normed mixed
  generalize val_main_v10 (F := Ideal) x1 x2 = Y0
  generalize val_main_v21 (F := Ideal) x1 x2 = Y1
  simp only [pointwise, zero_add]
  try simp
  try rfl

end Cert.Kernel2Ideal.Final

end
-- ==== Proof.Final.Rows.lean ====
module

public import proofs.«01_k».proof.Proof.Final.Out
public import proofs.«01_k».proof.Proof.Final.Dense

@[expose] public section

set_option maxRecDepth 16384

noncomputable section

namespace Cert.Kernel2Ideal.Final

open Cert.Kernel2Ideal Cert.Kernel2Ideal.Gen
open Idealize.ShloMosaic Idealize.ShloMosaic.TcCoe Idealize.SL.Sem

open Cert.Reference2Ideal.Read

variable (m : (ℓ : Loc nD τ sig) → Buf (Elt Ideal) ℓ)

/-- The first choice's rows, as the pipelined call finds them: the reference's rows before its widening. -/
theorem rows0 (c : Dev nD) : V m c main_v9
    = shapeCast S8x4096x1024 (val_main_v8 (F := Ideal) (m ((c : Thread nD τ).loc main_arg1)) (m ((c : Thread nD τ).loc main_arg2))) shapeCasts_S32768x1024_S8x4096x1024 := by
  unfold val_main_v8 val_main_v7 val_main_v6 val_main_v5 val_main_v4 val_main_c_0 val_main_v3 val_main_v2 val_main_c val_main_v1 val_main_v0
  dsimp only [V, hostOps0]
  after_results_simp <;> rfl

/-- The second choice's rows. -/
theorem rows1 (c : Dev nD) : V m c main_v19
    = shapeCast S8x4096x1024 (val_main_v19 (F := Ideal) (m ((c : Thread nD τ).loc main_arg1)) (m ((c : Thread nD τ).loc main_arg2))) shapeCasts_S32768x1024_S8x4096x1024 := by
  unfold val_main_v19 val_main_v18 val_main_v17 val_main_v16 val_main_v15 val_main_c_2 val_main_v14 val_main_v13 val_main_c_1 val_main_v12 val_main_v11
  dsimp only [V, hostOps0]
  after_results_simp <;> rfl

/-- The gain, as one row. -/
theorem gain (c : Dev nD) : V m c main_v20 = shapeCast S1x1024 (m ((c : Thread nD τ).loc main_arg5)) shapeCasts_S1024_S1x1024 := by
  dsimp only [V, hostOps0]
  after_results_simp <;> rfl

/-- The call's result is the reference's of the same arguments. -/
theorem result_eq (c : Dev nD) : found m c
    = val_main_v44 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold found
  rw [rows0, rows1, gain, V_main_arg0, V_main_arg3, V_main_arg4]
  funext j
  have hj : j = ix3 (j 0) (j 1) (j 2) := by
    funext a
    match a with
    | ⟨0, _⟩ => rfl
    | ⟨1, _⟩ => rfl
    | ⟨2, _⟩ => rfl
  rw [hj]
  refine Eq.trans ?_ (ref_apply _ _ _ _ _ _ (j 0) (j 1) (j 2)).symm
  have g1 : ∀ k : Fin 1024, shapeCast S1x1024 (m ((c : Thread nD τ).loc main_arg5)) shapeCasts_S1024_S1x1024 (ix2 0 k : S1x1024.Idx)
      = m ((c : Thread nD τ).loc main_arg5) (ix1 k : S1024.Idx) := fun k => by simp only [pointwise]
  show normed _ (fun k => shapeCast S1x1024 (m ((c : Thread nD τ).loc main_arg5)) shapeCasts_S1024_S1x1024 (ix2 0 k : S1x1024.Idx)) (j 2) = _
  simp only [g1]
  rfl

end Cert.Kernel2Ideal.Final

end
-- ==== Proof.Inproj.Tile.lean ====
module

public import proofs.«01_k».proof.Proof.Gen.Kernel3Ideal.Skeleton
public import proofs.«01_k».proof.Proof.Final.Tile
public import Idealize.ShloMosaic.Lib.Pointwise

@[expose] public section

set_option maxRecDepth 16384

noncomputable section

namespace Cert.Kernel3Ideal.Inproj

open Cert.Kernel3Ideal Cert.Kernel3Ideal.Gen
open Idealize.ShloMosaic Idealize.ShloMosaic.TcCoe Idealize.SL.Sem
open Cert.Kernel2Ideal.Final (normed)

/-- A token's channel after the norm and the modulation by scale `S` and shift `T`. -/
def moved (X G S T : Fin 1024 → EReal) (k : Fin 1024) : EReal :=
  normed X G k * (Ideal.ofBits .f32 0x3F800000#32 + S k) + T k

/-- The projected row of a block, at a column. -/
theorem pay3_apply (x : S1x64x8x1024.Idx → Elt Ideal .f32) (G : S1x1024.Idx → Elt Ideal .f32) (S T : S1x1x1024.Idx → Elt Ideal .f32)
    (w : S1024x1024.Idx → Elt Ideal .bf16) (r : Fin 512) (c : Fin 1024) :
    k0_pay3 (F := Ideal) x G S T w (ix2 r c)
      = ∑ k : Fin 1024, moved (fun k => x (ix4 0 (⟨r.val / 8, by omega⟩ : Fin 64) (⟨r.val % 8, by omega⟩ : Fin 8) k)) (fun k => G (ix2 0 k)) (fun k => S (ix3 0 0 k)) (fun k => T (ix3 0 0 k)) k * w (ix2 k c) := by
  unfold k0_pay3 moved normed
  simp only [pointwise, zero_add]
  simp
  try rfl

/-- The rows as the first result keeps them. -/
theorem pay1_apply (x : S1x64x8x1024.Idx → Elt Ideal .f32) (G : S1x1024.Idx → Elt Ideal .f32) (S T : S1x1x1024.Idx → Elt Ideal .f32)
    (w : S1024x1024.Idx → Elt Ideal .bf16) (l : Fin 64) (n : Fin 8) (d : Fin 512) :
    k0_pay1 (F := Ideal) (k0_pay4 x G S T w) (ix4 0 l n d)
      = k0_pay3 (F := Ideal) x G S T w (ix2 (⟨l.val * 8 + n.val, by omega⟩ : Fin 512) (⟨d.val, by omega⟩ : Fin 1024)) := by
  have e0 : ∀ r h, (⟨(![0, 0] : Fin 2 → ℕ) 0 + r, h⟩ : Fin 512) = ⟨r, lt_of_le_of_lt (Nat.le_add_left _ _) h⟩ := fun r h => Fin.ext (Nat.zero_add _)
  have e1 : ∀ r h, (⟨(![0, 0] : Fin 2 → ℕ) 1 + r, h⟩ : Fin 1024) = ⟨r, lt_of_le_of_lt (Nat.le_add_left _ _) h⟩ := fun r h => Fin.ext (Nat.zero_add _)
  unfold k0_pay1 k0_pay4
  simp only [pointwise, e0, e1]

theorem pay2_apply (v30 : S512x1024.Idx → Elt Ideal .f32) (v38 : S1024x512.Idx → Elt Ideal .bf16) (k : Fin 64) (s : Fin 16) (d : Fin 512) :
    k0_pay2 (F := Ideal) v30 v38 (ix4 0 k s d)
      = ∑ r : Fin 512, v38 (ix2 (⟨k.val * 16 + s.val, by omega⟩ : Fin 1024) r) * v30 (ix2 r (⟨512 + d.val, by omega⟩ : Fin 1024)) := by
  unfold k0_pay2
  simp only [pointwise, zero_add]
  have e : ∀ r h, (⟨(![0, 512] : Fin 2 → ℕ) 0 + r, h⟩ : Fin 512) = ⟨r, lt_of_le_of_lt (Nat.le_add_left _ _) h⟩ := fun r h => Fin.ext (Nat.zero_add _)
  simp only [e]
  try rfl

end Cert.Kernel3Ideal.Inproj

end
-- ==== Proof.Inproj.Out.lean ====
module

public import proofs.«01_k».proof.Proof.Inproj.Tile
public import proofs.«01_k».proof.Proof.Gen.Kernel3Ideal.Frame
public import Idealize.ShloMosaic.Lib.Pipeline.Value

@[expose] public section

set_option maxRecDepth 16384

noncomputable section

namespace Cert.Kernel3Ideal.Inproj

open Cert.Kernel3Ideal Cert.Kernel3Ideal.Gen
open Idealize.ShloMosaic Idealize.ShloMosaic.TcCoe Idealize.SL.Sem
open Cert.Kernel2Ideal.Final (normed)

variable (m : (ℓ : Loc nD τ sig) → Buf (Elt Ideal) ℓ) (ρ : Dev nD → PrngReg)

/-- The batch element of a grid point. -/
def bat (t : Fin cfg0.N) : Fin 8 := ⟨t.val / 8, Nat.div_lt_of_lt_mul (show t.val < 8 * 8 from t.isLt)⟩
/-- The column of a grid point's block at its place `n`. -/
def at8 (t : Fin cfg0.N) (n : Fin 8) : Fin 64 := ⟨t.val % 8 * 8 + n.val, by have := n.isLt; have := Nat.mod_lt t.val (show 0 < 8 by decide); omega⟩
/-- The place of a grid point's block of the second result. -/
def at16 (t : Fin cfg0.N) (n : Fin 16) : Fin 128 := ⟨t.val % 8 * 16 + n.val, by have := n.isLt; have := Nat.mod_lt t.val (show 0 < 8 by decide); omega⟩

theorem idx0 : ∀ t : Fin cfg0.N, win0_0.index t (0 : Fin 4) = t.val / 8 ∧ win0_0.index t (1 : Fin 4) = 0 ∧ win0_0.index t (2 : Fin 4) = t.val % 8 ∧ win0_0.index t (3 : Fin 4) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 4) = t.val / 8 ∧ win0_6.index t (1 : Fin 4) = 0 ∧ win0_6.index t (2 : Fin 4) = t.val % 8 ∧ win0_6.index t (3 : Fin 4) = 0 :=
  (by decide +kernel : ∀ t : Fin grid0.N, _)
theorem idx7 : ∀ t : Fin cfg0.N, win0_7.index t (0 : Fin 4) = t.val / 8 ∧ win0_7.index t (1 : Fin 4) = 0 ∧ win0_7.index t (2 : Fin 4) = t.val % 8 ∧ win0_7.index t (3 : Fin 4) = 0 :=
  (by decide +kernel : ∀ t : Fin grid0.N, _)

/-! ## Each window's block, read at a place -/

theorem blk0 (c : Dev nD) (t : Fin cfg0.N) (l : Fin 64) (n : Fin 8) (k : Fin 1024) :
    iblk m c 0 t (ix4 0 l n k : S1x64x8x1024.Idx) = V m c main_v16 (ix4 (bat t) l (at8 t n) k : S8x64x64x1024.Idx) := by
  obtain ⟨e0, e1, e2, e3⟩ := idx0 t
  refine congrArg (V m c main_v16) (funext fun a => Fin.ext ?_)
  match a with
  | ⟨0, _⟩ => show win0_0.index t (0 : Fin 4) * 1 + 1 * 0 = t.val / 8; omega
  | ⟨1, _⟩ => show win0_0.index t (1 : Fin 4) * 64 + 1 * l.val = l.val; omega
  | ⟨2, _⟩ => show win0_0.index t (2 : Fin 4) * 8 + 1 * n.val = t.val % 8 * 8 + n.val; omega
  | ⟨3, _⟩ => show win0_0.index t (3 : Fin 4) * 1024 + 1 * k.val = k.val; omega
theorem blk1 (c : Dev nD) (t : Fin cfg0.N) (k : Fin 1024) :
    iblk m c 1 t (ix3 0 0 k : S1x1x1024.Idx) = V m c main_arg1 (ix3 (bat t) 0 k : S8x1x1024.Idx) := by
  obtain ⟨e0, e1, e2⟩ := idx1 t
  refine congrArg (V m c main_arg1) (funext fun a => Fin.ext ?_)
  match a with
  | ⟨0, _⟩ => show win0_1.index t (0 : Fin 3) * 1 + 1 * 0 = t.val / 8; omega
  | ⟨1, _⟩ => show win0_1.index t (1 : Fin 3) * 1 + 1 * 0 = 0; omega
  | ⟨2, _⟩ => show win0_1.index t (2 : Fin 3) * 1024 + 1 * k.val = k.val; omega
theorem blk2 (c : Dev nD) (t : Fin cfg0.N) (k : Fin 1024) :
    iblk m c 2 t (ix3 0 0 k : S1x1x1024.Idx) = V m c main_arg2 (ix3 (bat t) 0 k : S8x1x1024.Idx) := by
  obtain ⟨e0, e1, e2⟩ := idx2 t
  refine congrArg (V m c main_arg2) (funext fun a => Fin.ext ?_)
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 1024 + 1 * k.val = k.val; omega
theorem blk3 (c : Dev nD) (t : Fin cfg0.N) (k : Fin 1024) :
    iblk m c 3 t (ix2 0 k : S1x1024.Idx) = V m c main_v13 (ix2 0 k : S1x1024.Idx) := by
  obtain ⟨e0, e1⟩ := idx3 t
  refine congrArg (V m c main_v13) (funext fun a => Fin.ext ?_)
  match a with
  | ⟨0, _⟩ => show win0_3.index t (0 : Fin 2) * 1 + 1 * 0 = 0; omega
  | ⟨1, _⟩ => show win0_3.index t (1 : Fin 2) * 1024 + 1 * k.val = k.val; omega
theorem blk4 (c : Dev nD) (t : Fin cfg0.N) (k q : Fin 1024) :
    iblk m c 4 t (ix2 k q : S1024x1024.Idx) = V m c main_v14 (ix2 k q : S1024x1024.Idx) := by
  obtain ⟨e0, e1⟩ := idx4 t
  refine congrArg (V m c main_v14) (funext fun a => Fin.ext ?_)
  match a with
  | ⟨0, _⟩ => show win0_4.index t (0 : Fin 2) * 1024 + 1 * k.val = k.val; omega
  | ⟨1, _⟩ => show win0_4.index t (1 : Fin 2) * 1024 + 1 * q.val = q.val; omega
theorem blk5 (c : Dev nD) (t : Fin cfg0.N) (k : Fin 1024) (q : Fin 512) :
    iblk m c 5 t (ix2 k q : S1024x512.Idx) = V m c main_v15 (ix2 k q : S1024x512.Idx) := by
  obtain ⟨e0, e1⟩ := idx5 t
  refine congrArg (V m c main_v15) (funext fun a => Fin.ext ?_)
  match a with
  | ⟨0, _⟩ => show win0_5.index t (0 : Fin 2) * 1024 + 1 * k.val = k.val; omega
  | ⟨1, _⟩ => show win0_5.index t (1 : Fin 2) * 512 + 1 * q.val = q.val; omega

/-! ## The result arrays -/

/-- A projected token's channel, of the arrays the pipelined call finds. -/
def row (X : S8x64x64x1024.Idx → Elt Ideal .f32) (T S : S8x1x1024.Idx → Elt Ideal .f32) (G : S1x1024.Idx → Elt Ideal .f32) (w : S1024x1024.Idx → Elt Ideal .bf16)
    (b : Fin 8) (l n : Fin 64) (q : Fin 1024) : EReal :=
  ∑ k : Fin 1024, moved (fun k => X (ix4 b l n k)) (fun k => G (ix2 0 k)) (fun k => S (ix3 b 0 k)) (fun k => T (ix3 b 0 k)) k * w (ix2 k q)

/-- The row at the arrays of core `c`. -/
abbrev rowAt (c : Dev nD) := row (V m c main_v16) (V m c main_arg1) (V m c main_arg2) (V m c main_v13) (V m c main_v14)

/-- The first result: a token's first 512 channels. -/
def found6 (c : Dev nD) : S8x64x64x512.Idx → Elt Ideal .f32 := fun j =>
  rowAt m c (j 0) (j 1) (j 2) (⟨(j 3).val, lt_of_lt_of_le (j 3).isLt (by decide)⟩ : Fin 1024)

/-- A table's row against the rows of a block, at one of the last 512 channels. -/
def stage (M : S1024x512.Idx → Elt Ideal .bf16) (R : Fin 8 → Fin 64 → Fin 64 → Fin 1024 → EReal) (b : Fin 8) (k : Fin 64) (s : Fin 128) (d : Fin 512) : EReal :=
  ∑ r : Fin 512, M (ix2 (⟨k.val * 16 + s.val % 16, by omega⟩ : Fin 1024) r)
    * R b (⟨r.val / 8, by omega⟩ : Fin 64) (⟨s.val / 16 * 8 + r.val % 8, by omega⟩ : Fin 64) (⟨512 + d.val, by omega⟩ : Fin 1024)

/-- The second result. -/
def found7 (c : Dev nD) : S8x64x128x512.Idx → Elt Ideal .bf16 := fun j => stage (V m c main_v15) (rowAt m c) (j 0) (j 1) (j 2) (j 3)

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

section
variable (x0 : Vec Ideal S1x64x8x1024 .f32) (x1 x2 : Vec Ideal S1x1x1024 .f32) (x3 : Vec Ideal S1x1024 .f32) (x4 : Vec Ideal S1024x1024 .bf16) (x5 : Vec Ideal S1024x512 .bf16)

/-- What the body leaves in the first result's buffer. -/
theorem out6_eq : out0_6 x0 x1 x2 x3 x4 x5 = k0_pay1 (k0_pay4 x0 x3 x2 x1 x4) := by
  unfold out0_6
  rw [View.canon_unit_zero hz4, View.ld_unit_zero (S := S1x64x8x1024) hz4, View.ld_unit_zero (S := S1x1024) hz2, View.ld_unit_zero (S := S1x1x1024) hz3, View.ld_unit_zero (S := S1x1x1024) hz3, View.ld_unit_zero (S := S1024x1024) hz2]

/-- What the body leaves in the second result's buffer. -/
theorem out7_eq : out0_7 x0 x1 x2 x3 x4 x5 = k0_pay2 (k0_pay3 x0 x3 x2 x1 x4) x5 := by
  unfold out0_7
  rw [View.canon_unit_zero hz4, View.ld_unit_zero (S := S1x64x8x1024) hz4, View.ld_unit_zero (S := S1x1024) hz2, View.ld_unit_zero (S := S1x1x1024) hz3, View.ld_unit_zero (S := S1x1x1024) hz3, View.ld_unit_zero (S := S1024x1024) hz2, View.ld_unit_zero (S := S1024x512) hz2]
end

theorem moved_eq {X X' G G' S S' T T' : Fin 1024 → EReal} (k : Fin 1024) (hX : ∀ q, X q = X' q) (hG : ∀ q, G q = G' q) (hS : ∀ q, S q = S' q) (hT : ∀ q, T q = T' q) :
    moved X G S T k = moved X' G' S' T' k := by
  rw [funext hX, funext hG, funext hS, funext hT]

/-- The body's rows of a point's input blocks. -/
theorem rows_at (c : Dev nD) (t : Fin cfg0.N) (r : Fin 512) (q : Fin 1024) :
    k0_pay3 (F := Ideal) (iblk m c 0 t) (iblk m c 3 t) (iblk m c 2 t) (iblk m c 1 t) (iblk m c 4 t) (ix2 r q)
      = rowAt m c (bat t) (⟨r.val / 8, by omega⟩ : Fin 64) (at8 t (⟨r.val % 8, by omega⟩ : Fin 8)) q := by
  refine (pay3_apply _ _ _ _ _ r q).trans ?_
  refine Finset.sum_congr rfl fun k _ => ?_
  refine congrArg₂ (fun a b : EReal => a * b) ?_ (blk4 m c t k q)
  exact moved_eq k (fun q => blk0 m c t _ _ q) (fun q => blk3 m c t q) (fun q => blk2 m c t q) (fun q => blk1 m c t q)

theorem emb6 (t : Fin cfg0.N) (y : S1x64x8x512.Idx) :
    (((cfg0.win 6).blk t).view.emb y : S8x64x64x512.Idx) = ix4 (bat t) (y 1) (at8 t (y 2)) (y 3) := by
  obtain ⟨e0, e1, e2, e3⟩ := idx6 t
  have hy : (y 0).val < 1 := (y 0).isLt
  funext a; apply Fin.ext
  match a with
  | ⟨0, _⟩ => show win0_6.index t (0 : Fin 4) * 1 + 1 * (y 0).val = t.val / 8; omega
  | ⟨1, _⟩ => show win0_6.index t (1 : Fin 4) * 64 + 1 * (y 1).val = (y 1).val; omega
  | ⟨2, _⟩ => show win0_6.index t (2 : Fin 4) * 8 + 1 * (y 2).val = t.val % 8 * 8 + (y 2).val; omega
  | ⟨3, _⟩ => show win0_6.index t (3 : Fin 4) * 512 + 1 * (y 3).val = (y 3).val; omega

theorem emb7 (t : Fin cfg0.N) (y : S1x64x16x512.Idx) :
    (((cfg0.win 7).blk t).view.emb y : S8x64x128x512.Idx) = ix4 (bat t) (y 1) (at16 t (y 2)) (y 3) := by
  obtain ⟨e0, e1, e2, e3⟩ := idx7 t
  have hy : (y 0).val < 1 := (y 0).isLt
  funext a; apply Fin.ext
  match a with
  | ⟨0, _⟩ => show win0_7.index t (0 : Fin 4) * 1 + 1 * (y 0).val = t.val / 8; omega
  | ⟨1, _⟩ => show win0_7.index t (1 : Fin 4) * 64 + 1 * (y 1).val = (y 1).val; omega
  | ⟨2, _⟩ => show win0_7.index t (2 : Fin 4) * 16 + 1 * (y 2).val = t.val % 8 * 16 + (y 2).val; omega
  | ⟨3, _⟩ => show win0_7.index t (3 : Fin 4) * 512 + 1 * (y 3).val = (y 3).val; omega

/-- The first result's block, at a place. -/
theorem block_at6 (c : Dev nD) (t : Fin cfg0.N) (l : Fin 64) (n : Fin 8) (d : Fin 512) :
    k0_pay1 (F := Ideal) (k0_pay4 (iblk m c 0 t) (iblk m c 3 t) (iblk m c 2 t) (iblk m c 1 t) (iblk m c 4 t)) (ix4 0 l n d) = found6 m c (ix4 (bat t) l (at8 t n) d) := by
  refine (pay1_apply _ _ _ _ _ l n d).trans ((rows_at m c t _ _).trans ?_)
  have e0 : (⟨(l.val * 8 + n.val) / 8, by omega⟩ : Fin 64) = l := Fin.ext (show (l.val * 8 + n.val) / 8 = l.val by omega)
  have e1 : (⟨(l.val * 8 + n.val) % 8, by omega⟩ : Fin 8) = n := Fin.ext (show (l.val * 8 + n.val) % 8 = n.val by omega)
  exact congrArg₂ (fun a b => rowAt m c (bat t) a (at8 t b) _) e0 e1

/-- The second result's block, at a place. -/
theorem block_at7 (c : Dev nD) (t : Fin cfg0.N) (k : Fin 64) (s : Fin 16) (d : Fin 512) :
    k0_pay2 (F := Ideal) (k0_pay3 (iblk m c 0 t) (iblk m c 3 t) (iblk m c 2 t) (iblk m c 1 t) (iblk m c 4 t)) (iblk m c 5 t) (ix4 0 k s d) = found7 m c (ix4 (bat t) k (at16 t s) d) := by
  refine (pay2_apply _ _ k s d).trans ?_
  show _ = stage (V m c main_v15) (rowAt m c) (bat t) k (at16 t s) d
  unfold stage
  refine Finset.sum_congr rfl fun r _ => ?_
  refine congrArg₂ (fun a b : EReal => a * b) ((blk5 m c t _ r).trans ?_) ((rows_at m c t r _).trans ?_)
  · refine congrArg (fun a => V m c main_v15 (ix2 a r : S1024x512.Idx)) (Fin.ext ?_)
    show k.val * 16 + s.val = k.val * 16 + (t.val % 8 * 16 + s.val) % 16
    omega
  · refine congrArg (fun a => rowAt m c (bat t) _ a _) (Fin.ext ?_)
    show t.val % 8 * 8 + r.val % 8 = (t.val % 8 * 16 + s.val) / 16 * 8 + r.val % 8
    omega

theorem block_eq6 (c : Dev nD) (t : Fin cfg0.N) (y : S1x64x8x512.Idx) :
    k0_pay1 (F := Ideal) (k0_pay4 (iblk m c 0 t) (iblk m c 3 t) (iblk m c 2 t) (iblk m c 1 t) (iblk m c 4 t)) y = found6 m c (((cfg0.win 6).blk t).view.emb y) := by
  rw [emb6]
  have hy0 : y 0 = (0 : Fin 1) := Subsingleton.elim (α := Fin 1) _ _
  have hy : y = ix4 0 (y 1) (y 2) (y 3) := by
    funext a
    match a with
    | ⟨0, _⟩ => exact hy0
    | ⟨1, _⟩ => rfl
    | ⟨2, _⟩ => rfl
    | ⟨3, _⟩ => rfl
  exact (congrArg (k0_pay1 (F := Ideal) (k0_pay4 (iblk m c 0 t) (iblk m c 3 t) (iblk m c 2 t) (iblk m c 1 t) (iblk m c 4 t))) hy).trans (block_at6 m c t (y 1) (y 2) (y 3))

/-- What a point writes back is its block of the result. -/
theorem flushed_eq6 (c : Dev nD) (t : Fin cfg0.N) :
    (Cert.Kernel3Ideal.Gen.dats (F := Ideal) m 0 c).flushed 6 t = ((cfg0.win 6).blk t).view.read (Elt Ideal) (found6 m c) := by
  show (cfg0.win 6).cut (grid0.coords t) ((dats m 0 c).after 6 t) = _
  rw [after0_6, out6_eq]
  exact funext fun y => block_eq6 m c t y

/-- The points' blocks cover the result array. -/
theorem covered6 (j : S8x64x64x512.Idx) :
    ∃ t : Fin cfg0.N, (cfg0.win 6).flush t = true ∧ j ∈ ((cfg0.win 6).blk t).view.set := by
  have h0 : (j 0).val < 8 := (j 0).isLt
  have h1 : (j 2).val < 64 := (j 2).isLt
  let t : Fin cfg0.N := (⟨(j 0).val * 8 + (j 2).val / 8, by omega⟩ : Fin 64)
  refine ⟨t, flush0_6 t, ?_⟩
  have h := ((cfg0.win 6).blk t).view.emb_mem_set (ix4 0 (j 1) (⟨(j 2).val % 8, Nat.mod_lt _ (by decide)⟩ : Fin 8) (j 3) : S1x64x8x512.Idx)
  rw [emb6] at h
  have e : (ix4 (bat t) (j 1) (at8 t (⟨(j 2).val % 8, Nat.mod_lt _ (by decide)⟩ : Fin 8)) (j 3) : S8x64x64x512.Idx) = j := by
    funext a; apply Fin.ext
    match a with
    | ⟨0, _⟩ => show ((j 0).val * 8 + (j 2).val / 8) / 8 = (j 0).val; omega
    | ⟨1, _⟩ => rfl
    | ⟨2, _⟩ => show ((j 0).val * 8 + (j 2).val / 8) % 8 * 8 + (j 2).val % 8 = (j 2).val; omega
    | ⟨3, _⟩ => rfl
  exact e ▸ h

/-- The result array at the end of the run. -/
theorem final6 (c : Dev nD) : (Cert.Kernel3Ideal.Gen.dats (F := Ideal) m 0 c).arrAt 6 cfg0.N = found6 m c :=
  (Cert.Kernel3Ideal.Gen.dats (F := Ideal) m 0 c).arrAt_eq_of_cover 6 (found6 m c) (fun t _ => flushed_eq6 m c t) covered6

theorem block_eq7 (c : Dev nD) (t : Fin cfg0.N) (y : S1x64x16x512.Idx) :
    k0_pay2 (F := Ideal) (k0_pay3 (iblk m c 0 t) (iblk m c 3 t) (iblk m c 2 t) (iblk m c 1 t) (iblk m c 4 t)) (iblk m c 5 t) y = found7 m c (((cfg0.win 7).blk t).view.emb y) := by
  rw [emb7]
  have hy0 : y 0 = (0 : Fin 1) := Subsingleton.elim (α := Fin 1) _ _
  have hy : y = ix4 0 (y 1) (y 2) (y 3) := by
    funext a
    match a with
    | ⟨0, _⟩ => exact hy0
    | ⟨1, _⟩ => rfl
    | ⟨2, _⟩ => rfl
    | ⟨3, _⟩ => rfl
  exact (congrArg (k0_pay2 (F := Ideal) (k0_pay3 (iblk m c 0 t) (iblk m c 3 t) (iblk m c 2 t) (iblk m c 1 t) (iblk m c 4 t)) (iblk m c 5 t)) hy).trans (block_at7 m c t (y 1) (y 2) (y 3))

/-- What a point writes back is its block of the result. -/
theorem flushed_eq7 (c : Dev nD) (t : Fin cfg0.N) :
    (Cert.Kernel3Ideal.Gen.dats (F := Ideal) m 0 c).flushed 7 t = ((cfg0.win 7).blk t).view.read (Elt Ideal) (found7 m c) := by
  show (cfg0.win 7).cut (grid0.coords t) ((dats m 0 c).after 7 t) = _
  rw [after0_7, out7_eq]
  exact funext fun y => block_eq7 m c t y

/-- The points' blocks cover the result array. -/
theorem covered7 (j : S8x64x128x512.Idx) :
    ∃ t : Fin cfg0.N, (cfg0.win 7).flush t = true ∧ j ∈ ((cfg0.win 7).blk t).view.set := by
  have h0 : (j 0).val < 8 := (j 0).isLt
  have h1 : (j 2).val < 128 := (j 2).isLt
  let t : Fin cfg0.N := (⟨(j 0).val * 8 + (j 2).val / 16, by omega⟩ : Fin 64)
  refine ⟨t, flush0_7 t, ?_⟩
  have h := ((cfg0.win 7).blk t).view.emb_mem_set (ix4 0 (j 1) (⟨(j 2).val % 16, Nat.mod_lt _ (by decide)⟩ : Fin 16) (j 3) : S1x64x16x512.Idx)
  rw [emb7] at h
  have e : (ix4 (bat t) (j 1) (at16 t (⟨(j 2).val % 16, Nat.mod_lt _ (by decide)⟩ : Fin 16)) (j 3) : S8x64x128x512.Idx) = j := by
    funext a; apply Fin.ext
    match a with
    | ⟨0, _⟩ => show ((j 0).val * 8 + (j 2).val / 16) / 8 = (j 0).val; omega
    | ⟨1, _⟩ => rfl
    | ⟨2, _⟩ => show ((j 0).val * 8 + (j 2).val / 16) % 8 * 16 + (j 2).val % 16 = (j 2).val; omega
    | ⟨3, _⟩ => rfl
  exact e ▸ h

/-- The result array at the end of the run. -/
theorem final7 (c : Dev nD) : (Cert.Kernel3Ideal.Gen.dats (F := Ideal) m 0 c).arrAt 7 cfg0.N = found7 m c :=
  (Cert.Kernel3Ideal.Gen.dats (F := Ideal) m 0 c).arrAt_eq_of_cover 7 (found7 m c) (fun t _ => flushed_eq7 m c t) covered7

/-- The run: the two result arrays are the two results, and the arguments are as launched. -/
theorem values : θ_run (defs (F := Ideal)) (onTc (τ := τ) (main (F := Ideal))) ⟨m, fun _ => 0, ρ⟩ fun r => ∀ c : Dev nD,
      r.2.mem ((c : Thread nD τ).loc main_v17_0) = found6 m c
      ∧ r.2.mem ((c : Thread nD τ).loc main_v17_1) = found7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run (defs (F := Ideal)) _ _).mono (fun r h (c : Dev nD) => ⟨((h.1 c).1 6).trans (final6 m c), ((h.1 c).1 7).trans (final7 m c), h.2 c⟩)
    (θ_run_and (run_main (F := Ideal) m ρ) (unchanged (F := Ideal) m ρ))

end Cert.Kernel3Ideal.Inproj

end
-- ==== Proof.Inproj.Dense.lean ====
module

public import proofs.«01_k».proof.Proof.Inproj.Tile
public import proofs.«01_k».proof.Proof.Gen.Reference3Ideal.Run
public import proofs.«01_k».proof.Proof.Gen.Reference3Ideal.Read

@[expose] public section

set_option maxRecDepth 16384

noncomputable section

namespace Cert.Kernel3Ideal.Inproj

open Cert.Kernel3Ideal Cert.Kernel3Ideal.Gen
open Idealize.ShloMosaic Idealize.ShloMosaic.TcCoe Idealize.SL.Sem
open Cert.Kernel2Ideal.Final (normed)

open Cert.Reference3Ideal.Read

/-- The reference's projected row. -/
theorem z_apply (x0 : S8x4096x1024.Idx → Elt Ideal .f32) (x1 x2 : S8x1x1024.Idx → Elt Ideal .f32) (x3 : S1024.Idx → Elt Ideal .f32) (x4 : S1024x1024.Idx → Elt Ideal .f32)
   (b : Fin 8) (l n : Fin 64) (c : Fin 1024) :
    val_main_v20 (F := Ideal) x0 x1 x2 x3 x4 (ix4 b l n c)
      = ∑ k : Fin 1024, moved (fun k => x0 (ix3 b (⟨l.val * 64 + n.val, by omega⟩ : Fin 4096) k)) (fun k => x3 (ix1 k)) (fun k => x2 (ix3 b 0 k)) (fun k => x1 (ix3 b 0 k)) k * x4 (ix2 k c) := by
  unfold val_main_v20 val_main_v19 val_main_v18 val_main_v17 val_main_v16 val_main_v15 val_main_v14 val_main_v13 val_main_cst_2 val_main_v12 val_main_v11 val_main_v10 val_main_v9 val_main_v8 val_main_v7 val_main_v6 val_main_v5 val_main_cst_1 val_main_v4 val_main_v3 val_main_cst_0 val_main_v2 val_main_v1 val_main_cst val_main_v0 moved normed
  simp only [pointwise, zero_add]
  simp
  try rfl

theorem low_apply (x0 : S8x4096x1024.Idx → Elt Ideal .f32) (x1 x2 : S8x1x1024.Idx → Elt Ideal .f32) (x3 : S1024.Idx → Elt Ideal .f32) (x4 : S1024x1024.Idx → Elt Ideal .f32)
   (b : Fin 8) (l n : Fin 64) (d : Fin 512) :
    val_main_v26 (F := Ideal) x0 x1 x2 x3 x4 (ix4 b l n d) = val_main_v20 (F := Ideal) x0 x1 x2 x3 x4 (ix4 b l n (⟨d.val, by omega⟩ : Fin 1024)) := by
  unfold val_main_v26
  generalize val_main_v20 (F := Ideal) x0 x1 x2 x3 x4 = Z
  simp only [pointwise]
  simp
  try rfl

theorem high_apply (x0 : S8x4096x1024.Idx → Elt Ideal .f32) (x1 x2 : S8x1x1024.Idx → Elt Ideal .f32) (x3 : S1024.Idx → Elt Ideal .f32) (x4 : S1024x1024.Idx → Elt Ideal .f32) (x5 : S64x2x64.Idx → Elt Ideal .f32)
   (b : Fin 8) (k : Fin 64) (s : Fin 128) (d : Fin 512) :
    val_main_v28 (F := Ideal) x0 x1 x2 x3 x4 x5 (ix4 b k s d)
      = ∑ l : Fin 64, val_main_v20 (F := Ideal) x0 x1 x2 x3 x4 (ix4 b l (⟨s.val / 16 * 8 + s.val % 8, by omega⟩ : Fin 64) (⟨512 + d.val, by omega⟩ : Fin 1024)) * x5 (ix3 k (⟨s.val / 8 % 2, by omega⟩ : Fin 2) l) := by
  unfold val_main_v28 val_main_v27 val_main_v25 val_main_v24 val_main_v23 val_main_v22 val_main_v21
  generalize val_main_v20 (F := Ideal) x0 x1 x2 x3 x4 = Z
  simp only [pointwise, zero_add]
  simp
  try rfl

end Cert.Kernel3Ideal.Inproj

end
-- ==== Proof.Inproj.Rows.lean ====
module

public import proofs.«01_k».proof.Proof.Inproj.Out
public import proofs.«01_k».proof.Proof.Inproj.Dense
public import proofs.«01_k».proof.Proof.Moe.Refer

@[expose] public section

set_option maxRecDepth 16384

noncomputable section

namespace Cert.Kernel3Ideal.Inproj

open Cert.Kernel3Ideal Cert.Kernel3Ideal.Gen
open Idealize.ShloMosaic Idealize.ShloMosaic.TcCoe Idealize.SL.Sem
open Cert.Kernel2Ideal.Final (normed)

open Cert.KernelIdeal.Moe (bit_one bit_zero)
open Cert.Reference3Ideal.Read

variable (m : (ℓ : Loc nD τ sig) → Buf (Elt Ideal) ℓ)

theorem gain (c : Dev nD) : V m c main_v13 = shapeCast S1x1024 (m ((c : Thread nD τ).loc main_arg3)) shapeCasts_S1024_S1x1024 := by
  dsimp only [V, hostOps0]
  after_results_simp <;> rfl

theorem weights (c : Dev nD) : V m c main_v14 = truncf (F := Ideal) .bf16 (m ((c : Thread nD τ).loc main_arg4)) bitsLt_bf16_f32 := by
  dsimp only [V, hostOps0]
  after_results_simp <;> rfl

theorem tokens (c : Dev nD) : V m c main_v16 = shapeCast S8x64x64x1024 (m ((c : Thread nD τ).loc main_arg0)) shapeCasts_S8x4096x1024_S8x64x64x1024 := by
  dsimp only [V, hostOps0]
  after_results_simp <;> rfl

/-- The table spread over the places of a block: its entry where the two places agree, else zero. -/
def spread (f : S64x2x64.Idx → Elt Ideal .f32) : S1024x512.Idx → Elt Ideal .bf16 :=
  truncf (F := Ideal) .bf16 (shapeCast S1024x512 (mulf (F := Ideal)
    (broadcastInDim S64x2x8x64x8 ![0, 1, 2, 3, 4] bcast_S64x2x1x64x1_S64x2x8x64x8_0_1_2_3_4 (broadcastInDim S64x2x1x64x1 ![0, 1, 3] bcast_S64x2x64_S64x2x1x64x1_0_1_3 f))
    (broadcastInDim S64x2x8x64x8 ![0, 1, 2, 3, 4] bcast_S1x1x8x1x8_S64x2x8x64x8_0_1_2_3_4 (broadcastInDim S1x1x8x1x8 ![2, 3, 4] bcast_S8x1x8_S1x1x8x1x8_2_3_4
      (broadcastInDim S8x1x8 ![0, 2] bcast_S8x8_S8x1x8_0_2 (uitofp (F := Ideal) .f32 (cmpi .eq (addi (iotaInDim S8x8 32 0) (broadcastInDim S8x8 ![] bcast_S_S8x8 (constantI S_ 32 0#32))) (iotaInDim S8x8 32 1)))))))
    shapeCasts_S64x2x8x64x8_S1024x512) bitsLt_bf16_f32

theorem table (c : Dev nD) : V m c main_v15 = spread (m ((c : Thread nD τ).loc main_arg5)) := by
  unfold spread
  dsimp only [V, hostOps0]
  after_results_simp <;> rfl

theorem spread_apply (f : S64x2x64.Idx → Elt Ideal .f32) (k : Fin 64) (s : Fin 16) (l : Fin 64) (q : Fin 8) :
    spread f (ix2 (⟨k.val * 16 + s.val, by omega⟩ : Fin 1024) (⟨l.val * 8 + q.val, by omega⟩ : Fin 512))
      = if q.val = s.val % 8 then f (ix3 k (⟨s.val / 8, by omega⟩ : Fin 2) l) else 0 := by
  unfold spread
  simp only [pointwise]
  show f (ix3 k (⟨(k.val * 16 + s.val) / 8 % 2, by omega⟩ : Fin 2) l) * FloatOps.uitofp (F := Ideal) .f32
    (IntOp.cmpi .eq (IntOp.addi (BitVec.ofNat 32 ((k.val * 16 + s.val) % 8)) 0#32) (BitVec.ofNat 32 q.val)) = _
  have e2 : (⟨(k.val * 16 + s.val) / 8 % 2, by omega⟩ : Fin 2) = ⟨s.val / 8, by omega⟩ := Fin.ext (show (k.val * 16 + s.val) / 8 % 2 = s.val / 8 by omega)
  have ez : ∀ a : BitVec 32, IntOp.addi a 0#32 = a := fun a => BitVec.add_zero a
  rw [ez, e2]
  split
  · rename_i h
    rw [bit_one, mul_one]
    refine IntOp.cmpi_eq.mpr ?_
    rw [h]
    exact congrArg (BitVec.ofNat 32) (show (k.val * 16 + s.val) % 8 = s.val % 8 by omega)
  · rename_i h
    rw [bit_zero, mul_zero]
    intro hh
    have hn := congrArg BitVec.toNat (IntOp.cmpi_eq.mp hh)
    rw [BitVec.toNat_ofNat, BitVec.toNat_ofNat, Nat.mod_eq_of_lt (show (k.val * 16 + s.val) % 8 < 2 ^ 32 by omega), Nat.mod_eq_of_lt (show q.val < 2 ^ 32 by omega)] at hn
    omega

section
variable (c : Dev nD)

/-- The six arguments on core `c`. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)

/-- The projected rows are the reference's. -/
theorem row_eq (b : Fin 8) (l n : Fin 64) (q : Fin 1024) :
    rowAt m c b l n q = val_main_v20 (F := Ideal) (A0 m c) (A1 m c) (A2 m c) (A3 m c) (A4 m c) (ix4 b l n q) := by
  refine Eq.trans ?_ (z_apply _ _ _ _ _ b l n q).symm
  have hX : ∀ k : Fin 1024, V m c main_v16 (ix4 b l n k : S8x64x64x1024.Idx) = A0 m c (ix3 b (⟨l.val * 64 + n.val, by omega⟩ : Fin 4096) k : S8x4096x1024.Idx) := fun k => by
    rw [tokens]; simp only [pointwise]
  have hG : ∀ k : Fin 1024, V m c main_v13 (ix2 0 k : S1x1024.Idx) = A3 m c (ix1 k : S1024.Idx) := fun k => by
    rw [gain]; simp only [pointwise]
  have hw : ∀ k : Fin 1024, V m c main_v14 (ix2 k q : S1024x1024.Idx) = A4 m c (ix2 k q : S1024x1024.Idx) := fun k => by
    rw [weights]; simp only [pointwise]
  show row _ _ _ _ _ b l n q = _
  unfold row
  refine Finset.sum_congr rfl fun k _ => ?_
  refine congrArg₂ (fun a b : EReal => a * b) (moved_eq k hX hG (fun q => ?_) (fun q => ?_)) (hw k)
  · rw [V_main_arg2]
  · rw [V_main_arg1]

/-- The first result is the reference's. -/
theorem first_eq : found6 m c = val_main_v26 (F := Ideal) (A0 m c) (A1 m c) (A2 m c) (A3 m c) (A4 m c) := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  rw [hj]
  exact (row_eq m c _ _ _ _).trans (low_apply _ _ _ _ _ (j 0) (j 1) (j 2) (j 3)).symm

/-- The table's row against a block's rows: only the rows at the place's own column count. -/
theorem stage_eq (f : S64x2x64.Idx → Elt Ideal .f32) (R : Fin 8 → Fin 64 → Fin 64 → Fin 1024 → EReal) (b : Fin 8) (k : Fin 64) (s : Fin 128) (d : Fin 512) :
    stage (spread f) R b k s d
      = ∑ l : Fin 64, R b l (⟨s.val / 16 * 8 + s.val % 8, by omega⟩ : Fin 64) (⟨512 + d.val, by omega⟩ : Fin 1024) * f (ix3 k (⟨s.val / 8 % 2, by omega⟩ : Fin 2) l) := by
  unfold stage
  rw [Fin.sum_univ_tiles 64 8 rfl]
  refine Finset.sum_congr rfl fun l _ => ?_
  have hs : s.val % 16 < 16 := Nat.mod_lt _ (by decide)
  have ht : ∀ q : Fin 8, spread f (ix2 (⟨k.val * 16 + s.val % 16, by omega⟩ : Fin 1024) (⟨l.val * 8 + q.val, by omega⟩ : Fin 512))
      = if q.val = s.val % 16 % 8 then f (ix3 k (⟨s.val % 16 / 8, by omega⟩ : Fin 2) l) else 0 := fun q => spread_apply f k ⟨s.val % 16, hs⟩ l q
  let q0 : Fin 8 := ⟨s.val % 8, Nat.mod_lt _ (by decide)⟩
  have e2 : (⟨s.val % 16 / 8, by omega⟩ : Fin 2) = ⟨s.val / 8 % 2, by omega⟩ := Fin.ext (show s.val % 16 / 8 = s.val / 8 % 2 by omega)
  refine (Finset.sum_eq_single q0 (fun q _ hq => ?_) (fun h => absurd (Finset.mem_univ _) h)).trans ?_
  · rw [ht q, if_neg (fun h => hq (Fin.ext (show q.val = s.val % 8 by omega))), zero_mul]
  · rw [ht q0, if_pos (show s.val % 8 = s.val % 16 % 8 by omega), mul_comm, e2]
    refine congrArg (fun a : EReal => a * _) (congrArg₂ (fun a n => R b a n _) (Fin.ext ?_) (Fin.ext ?_))
    · show (l.val * 8 + s.val % 8) / 8 = l.val
      omega
    · show s.val / 16 * 8 + (l.val * 8 + s.val % 8) % 8 = s.val / 16 * 8 + s.val % 8
      omega

/-- The second result is the reference's. -/
theorem second_eq : found7 m c = val_main_v28 (F := Ideal) (A0 m c) (A1 m c) (A2 m c) (A3 m c) (A4 m c) (A5 m c) := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  rw [hj]
  refine Eq.trans ?_ (high_apply _ _ _ _ _ _ (j 0) (j 1) (j 2) (j 3)).symm
  show stage (V m c main_v15) (rowAt m c) (j 0) (j 1) (j 2) (j 3) = _
  rw [table]
  refine (stage_eq _ _ (j 0) (j 1) (j 2) (j 3)).trans ?_
  refine Finset.sum_congr rfl fun l _ => ?_
  exact congrArg (fun a : EReal => a * _) (row_eq m c _ _ _ _)

end

end Cert.Kernel3Ideal.Inproj

end
-- ==== Proof.Adaln.Tile.lean ====
module

public import proofs.«01_k».proof.Proof.Gen.Kernel4Ideal.Skeleton
public import proofs.«01_k».proof.Proof.Moe.Refer
public import proofs.«01_k».proof.Proof.Gen.Reference4Ideal.Run
public import proofs.«01_k».proof.Proof.Gen.Reference4Ideal.Read
public import Idealize.ShloMosaic.Lib.Pointwise

@[expose] public section

set_option maxRecDepth 16384

noncomputable section

namespace Cert.Kernel4Ideal.Adaln

open Cert.Kernel4Ideal Cert.Kernel4Ideal.Gen
open Idealize.ShloMosaic Idealize.ShloMosaic.TcCoe Idealize.SL.Sem
open Cert.KernelIdeal.Moe (one_word)
open Cert.Reference4Ideal.Read

/-- A condition's row through the gate `x ↦ x · logistic x`, against a column of the weights, plus that column's bias. -/
def vecs (X W : Fin 1024 → EReal) (b : EReal) : EReal := ∑ k : Fin 1024, X k * Ideal.logistic (X k) * W k + b

/-- The body's arithmetic at a row and column. -/
theorem pay_apply (x : S16x1024.Idx → Elt Ideal .f32) (w : S1024x768.Idx → Elt Ideal .f32) (b : S1x768.Idx → Elt Ideal .f32) (r : Fin 16) (q : Fin 768) :
    k0_pay1 (F := Ideal) x w b (ix2 r q) = vecs (fun k => x (ix2 r k)) (fun k => w (ix2 k q)) (b (ix2 0 q)) := by
  unfold k0_pay1 vecs
  simp only [pointwise, zero_add]
  simp
  try rfl

/-- The reference at a row and column. -/
theorem ref_apply (x : S16x1024.Idx → Elt Ideal .f32) (w : S1024x6144.Idx → Elt Ideal .f32) (b : S6144.Idx → Elt Ideal .f32) (r : Fin 16) (q : Fin 6144) :
    val_main_v4 (F := Ideal) x w b (ix2 r q) = vecs (fun k => x (ix2 r k)) (fun k => w (ix2 k q)) (b (ix1 q)) := by
  unfold val_main_v4 val_main_v3 val_main_v2 val_main_v1 val_main_v0 val_main_call0_v5 val_main_call0_v4 val_main_call0_cst_0 val_main_call0_v3 val_main_call0_v2 val_main_call0_cst val_main_call0_v1 val_main_call0_v0 vecs
  simp only [pointwise, zero_add, one_word]
  try rfl

end Cert.Kernel4Ideal.Adaln

end
-- ==== Proof.Adaln.Out.lean ====
module

public import proofs.«01_k».proof.Proof.Adaln.Tile
public import proofs.«01_k».proof.Proof.Gen.Kernel4Ideal.Frame
public import Idealize.ShloMosaic.Lib.Pipeline.Value

@[expose] public section

set_option maxRecDepth 16384

noncomputable section

namespace Cert.Kernel4Ideal.Adaln

open Cert.Kernel4Ideal Cert.Kernel4Ideal.Gen
open Idealize.ShloMosaic Idealize.ShloMosaic.TcCoe Idealize.SL.Sem

variable (m : (ℓ : Loc nD τ sig) → Buf (Elt Ideal) ℓ) (ρ : Dev nD → PrngReg)

/-- The column of a grid point's block at its place `q`. -/
def col (t : Fin cfg0.N) (q : Fin 768) : Fin 6144 := ⟨t.val * 768 + q.val, by have := q.isLt; have h : t.val < 8 := t.isLt; omega⟩

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

theorem blk0 (c : Dev nD) (t : Fin cfg0.N) (r : Fin 16) (k : Fin 1024) :
    iblk m c 0 t (ix2 r k : S16x1024.Idx) = V m c main_arg0 (ix2 r k : S16x1024.Idx) := by
  obtain ⟨e0, e1⟩ := idx0 t
  refine congrArg (V m c main_arg0) (funext fun a => Fin.ext ?_)
  match a with
  | ⟨0, _⟩ => show win0_0.index t (0 : Fin 2) * 16 + 1 * r.val = r.val; omega
  | ⟨1, _⟩ => show win0_0.index t (1 : Fin 2) * 1024 + 1 * k.val = k.val; omega
theorem blk1 (c : Dev nD) (t : Fin cfg0.N) (k : Fin 1024) (q : Fin 768) :
    iblk m c 1 t (ix2 k q : S1024x768.Idx) = V m c main_arg1 (ix2 k (col t q) : S1024x6144.Idx) := by
  obtain ⟨e0, e1⟩ := idx1 t
  refine congrArg (V m c main_arg1) (funext fun a => Fin.ext ?_)
  match a with
  | ⟨0, _⟩ => show win0_1.index t (0 : Fin 2) * 1024 + 1 * k.val = k.val; omega
  | ⟨1, _⟩ => show win0_1.index t (1 : Fin 2) * 768 + 1 * q.val = t.val * 768 + q.val; omega
theorem blk2 (c : Dev nD) (t : Fin cfg0.N) (q : Fin 768) :
    iblk m c 2 t (ix2 0 q : S1x768.Idx) = V m c main_v0 (ix2 0 (col t q) : S1x6144.Idx) := by
  obtain ⟨e0, e1⟩ := idx2 t
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 768 + 1 * q.val = t.val * 768 + q.val; omega

/-- The call's result, of the arrays it finds. -/
def found (c : Dev nD) : S16x6144.Idx → Elt Ideal .f32 := fun j =>
  vecs (fun k => V m c main_arg0 (ix2 (j 0) k : S16x1024.Idx)) (fun k => V m c main_arg1 (ix2 k (j 1) : S1024x6144.Idx)) (V m c main_v0 (ix2 0 (j 1) : S1x6144.Idx))

theorem hz2 : (![0, 0] : Fin 2 → Nat) = fun _ => 0 := by decide

/-- What the body leaves in the result's buffer. -/
theorem out_eq (x0 : Vec Ideal S16x1024 .f32) (x1 : Vec Ideal S1024x768 .f32) (x2 : Vec Ideal S1x768 .f32) : out0_3 x0 x1 x2 = k0_pay1 x0 x1 x2 := by
  unfold out0_3
  rw [View.canon_unit_zero hz2, View.ld_unit_zero (S := S16x1024) hz2, View.ld_unit_zero (S := S1024x768) hz2, View.ld_unit_zero (S := S1x768) hz2]

theorem vecs_eq {X X' W W' : Fin 1024 → EReal} {b b' : EReal} (hX : ∀ k, X k = X' k) (hW : ∀ k, W k = W' k) (hb : b = b') : vecs X W b = vecs X' W' b' := by
  rw [funext hX, funext hW, hb]

theorem emb3 (t : Fin cfg0.N) (y : S16x768.Idx) : (((cfg0.win 3).blk t).view.emb y : S16x6144.Idx) = ix2 (y 0) (col t (y 1)) := by
  obtain ⟨e0, e1⟩ := idx3 t
  funext a; apply Fin.ext
  match a with
  | ⟨0, _⟩ => show win0_3.index t (0 : Fin 2) * 16 + 1 * (y 0).val = (y 0).val; omega
  | ⟨1, _⟩ => show win0_3.index t (1 : Fin 2) * 768 + 1 * (y 1).val = t.val * 768 + (y 1).val; omega

theorem block_eq (c : Dev nD) (t : Fin cfg0.N) (y : S16x768.Idx) :
    k0_pay1 (F := Ideal) (iblk m c 0 t) (iblk m c 1 t) (iblk m c 2 t) y = found m c (((cfg0.win 3).blk t).view.emb y) := by
  rw [emb3]
  have hy : y = ix2 (y 0) (y 1) := by
    funext a
    match a with
    | ⟨0, _⟩ => rfl
    | ⟨1, _⟩ => rfl
  refine (congrArg (k0_pay1 (F := Ideal) (iblk m c 0 t) (iblk m c 1 t) (iblk m c 2 t)) hy).trans ((pay_apply _ _ _ (y 0) (y 1)).trans ?_)
  exact vecs_eq (fun k => blk0 m c t _ k) (fun k => blk1 m c t k _) (blk2 m c t _)

/-- What a point writes back is its block of the result. -/
theorem flushed_eq (c : Dev nD) (t : Fin cfg0.N) :
    (Cert.Kernel4Ideal.Gen.dats (F := Ideal) m 0 c).flushed 3 t = ((cfg0.win 3).blk t).view.read (Elt Ideal) (found m c) := by
  show (cfg0.win 3).cut (grid0.coords t) ((dats m 0 c).after 3 t) = _
  rw [after0_3, out_eq]
  exact funext fun y => block_eq m c t y

/-- The points' blocks cover the result array. -/
theorem covered (j : S16x6144.Idx) : ∃ t : Fin cfg0.N, (cfg0.win 3).flush t = true ∧ j ∈ ((cfg0.win 3).blk t).view.set := by
  have h1 : (j 1).val < 6144 := (j 1).isLt
  let t : Fin cfg0.N := (⟨(j 1).val / 768, by omega⟩ : Fin 8)
  refine ⟨t, flush0_3 t, ?_⟩
  have h := ((cfg0.win 3).blk t).view.emb_mem_set (ix2 (j 0) (⟨(j 1).val % 768, Nat.mod_lt _ (by decide)⟩ : Fin 768) : S16x768.Idx)
  rw [emb3] at h
  have e : (ix2 (j 0) (col t (⟨(j 1).val % 768, Nat.mod_lt _ (by decide)⟩ : Fin 768)) : S16x6144.Idx) = j := by
    funext a; apply Fin.ext
    match a with
    | ⟨0, _⟩ => rfl
    | ⟨1, _⟩ => show (j 1).val / 768 * 768 + (j 1).val % 768 = (j 1).val; omega
  exact e ▸ h

/-- The result array at the end of the run. -/
theorem final (c : Dev nD) : (Cert.Kernel4Ideal.Gen.dats (F := Ideal) m 0 c).arrAt 3 cfg0.N = found m c :=
  (Cert.Kernel4Ideal.Gen.dats (F := Ideal) m 0 c).arrAt_eq_of_cover 3 (found m c) (fun t _ => flushed_eq m c t) covered

/-- The run: the result array is the result, and the arguments are as launched. -/
theorem values : θ_run (defs (F := Ideal)) (onTc (τ := τ) (main (F := Ideal))) ⟨m, fun _ => 0, ρ⟩ fun r => ∀ c : Dev nD,
      r.2.mem ((c : Thread nD τ).loc main_v1) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run (defs (F := Ideal)) _ _).mono (fun r h (c : Dev nD) => ⟨((h.1 c).1 3).trans (final m c), h.2 c⟩)
    (θ_run_and (run_main (F := Ideal) m ρ) (unchanged (F := Ideal) m ρ))

theorem bias (c : Dev nD) : V m c main_v0 = shapeCast S1x6144 (m ((c : Thread nD τ).loc main_arg2)) shapeCasts_S6144_S1x6144 := by
  dsimp only [V, hostOps0]
  after_results_simp <;> rfl

open Cert.Reference4Ideal.Read in
/-- The call's result is the reference's. -/
theorem result_eq (c : Dev nD) : found m c = val_main_v4 (F := Ideal) (m ((c : Thread nD τ).loc main_arg0)) (m ((c : Thread nD τ).loc main_arg1)) (m ((c : Thread nD τ).loc main_arg2)) := by
  funext j
  have hj : j = ix2 (j 0) (j 1) := by
    funext a
    match a with
    | ⟨0, _⟩ => rfl
    | ⟨1, _⟩ => rfl
  rw [hj]
  refine Eq.trans ?_ (ref_apply _ _ _ (j 0) (j 1)).symm
  refine vecs_eq (fun k => ?_) (fun k => ?_) ?_
  · rw [V_main_arg0]; rfl
  · rw [V_main_arg1]; rfl
  · rw [bias]; simp only [pointwise]

end Cert.Kernel4Ideal.Adaln

end
-- ==== Proof.Fourier.Tile.lean ====
module

public import proofs.«01_k».proof.Proof.Gen.Kernel5Ideal.Skeleton
public import Idealize.ShloMosaic.Lib.Pointwise

@[expose] public section

set_option maxRecDepth 16384

noncomputable section

namespace Cert.Kernel5Ideal.Fourier

open Cert.Kernel5Ideal Cert.Kernel5Ideal.Gen
open Idealize.ShloMosaic Idealize.ShloMosaic.TcCoe Idealize.SL.Sem

/-- The root-mean-square norm of a row of 512 channels, with its gain. -/
def normed (X G : Fin 512 → EReal) (d : Fin 512) : EReal :=
  X d * Ideal.rsqrt (Ideal.div (∑ k : Fin 512, X k * X k) (Ideal.ofBits .f32 0x44000000#32) + Ideal.ofBits .f32 0x358637BD#32) * G d

/-- The product of a block's matrix with the block's rows, at a row and channel. -/
theorem pay2_apply (g : S1x8x128x512.Idx → Elt Ideal .bf16) (M : S1x1024x1024.Idx → Elt Ideal .bf16) (r : Fin 1024) (d : Fin 512) :
    k0_pay2 (F := Ideal) g M (ix2 r d)
      = ∑ q : Fin 1024, M (ix3 0 r q) * g (ix4 0 (⟨q.val / 128, by omega⟩ : Fin 8) (⟨q.val % 128, by omega⟩ : Fin 128) d) := by
  unfold k0_pay2
  simp only [pointwise, zero_add]
  try rfl

/-- The real rows are the first 512. -/
theorem pay3_apply (g : S1x8x128x512.Idx → Elt Ideal .bf16) (M : S1x1024x1024.Idx → Elt Ideal .bf16) (r d : Fin 512) :
    k0_pay3 (F := Ideal) g M (ix2 r d) = k0_pay2 (F := Ideal) g M (ix2 (⟨r.val, by omega⟩ : Fin 1024) d) := by
  unfold k0_pay3
  generalize k0_pay2 (F := Ideal) g M = Z
  simp only [pointwise]
  simp
  try rfl

/-- The imaginary rows are the last 512. -/
theorem pay4_apply (g : S1x8x128x512.Idx → Elt Ideal .bf16) (M : S1x1024x1024.Idx → Elt Ideal .bf16) (r d : Fin 512) :
    k0_pay4 (F := Ideal) g M (ix2 r d) = k0_pay2 (F := Ideal) g M (ix2 (⟨512 + r.val, by omega⟩ : Fin 1024) d) := by
  unfold k0_pay4
  generalize k0_pay2 (F := Ideal) g M = Z
  simp only [pointwise]
  simp
  try rfl

/-- One group of 128 channels through its two tables. -/
def group (A B : Fin 128 → EReal) (C S : S1x128x128.Idx → Elt Ideal .bf16) (c : Fin 128) : EReal :=
  ∑ k : Fin 128, A k * C (ix3 0 k c) + ∑ k : Fin 128, B k * S (ix3 0 k c)

theorem pay5_apply (g : S1x8x128x512.Idx → Elt Ideal .bf16) (M : S1x1024x1024.Idx → Elt Ideal .bf16) (C S : S1x128x128.Idx → Elt Ideal .bf16) (r : Fin 512) (c : Fin 128) :
    k0_pay5 (F := Ideal) g M C S (ix2 r c)
      = group (fun k => k0_pay3 (F := Ideal) g M (ix2 r (⟨k.val, by omega⟩ : Fin 512))) (fun k => k0_pay4 (F := Ideal) g M (ix2 r (⟨k.val, by omega⟩ : Fin 512))) C S c := by
  unfold k0_pay5 group
  generalize k0_pay3 (F := Ideal) g M = A
  generalize k0_pay4 (F := Ideal) g M = B
  simp only [pointwise, zero_add]
  simp
  try rfl

theorem pay6_apply (g : S1x8x128x512.Idx → Elt Ideal .bf16) (M : S1x1024x1024.Idx → Elt Ideal .bf16) (C S : S1x128x128.Idx → Elt Ideal .bf16) (r : Fin 512) (c : Fin 128) :
    k0_pay6 (F := Ideal) g M C S (ix2 r c)
      = group (fun k => k0_pay3 (F := Ideal) g M (ix2 r (⟨128 + k.val, by omega⟩ : Fin 512))) (fun k => k0_pay4 (F := Ideal) g M (ix2 r (⟨128 + k.val, by omega⟩ : Fin 512))) C S c := by
  unfold k0_pay6 group
  generalize k0_pay3 (F := Ideal) g M = A
  generalize k0_pay4 (F := Ideal) g M = B
  simp only [pointwise, zero_add]
  simp
  try rfl

/-- The third and fourth groups, as the body forms them. -/
def third (A B : FVec Ideal S512x512 .bf16) (C S : FVec Ideal S1x128x128 .bf16) : FVec Ideal S512x128 .f32 :=
  addf
    (matmul dot_S512x128_S128x128_S512x128_1_0_0_1_n_n none (extractStridedSlice S512x128 ![0, 256] A slices_S512x512_o0_256_S512x128) (shapeCast S128x128 C shapeCasts_S1x128x128_S128x128) (constant S512x128 .f32 0x00000000#32))
    (matmul dot_S512x128_S128x128_S512x128_1_0_0_1_n_n none (extractStridedSlice S512x128 ![0, 256] B slices_S512x512_o0_256_S512x128) (shapeCast S128x128 S shapeCasts_S1x128x128_S128x128) (constant S512x128 .f32 0x00000000#32))
def fourth (A B : FVec Ideal S512x512 .bf16) (C S : FVec Ideal S1x128x128 .bf16) : FVec Ideal S512x128 .f32 :=
  addf
    (matmul dot_S512x128_S128x128_S512x128_1_0_0_1_n_n none (extractStridedSlice S512x128 ![0, 384] A slices_S512x512_o0_384_S512x128) (shapeCast S128x128 C shapeCasts_S1x128x128_S128x128) (constant S512x128 .f32 0x00000000#32))
    (matmul dot_S512x128_S128x128_S512x128_1_0_0_1_n_n none (extractStridedSlice S512x128 ![0, 384] B slices_S512x512_o0_384_S512x128) (shapeCast S128x128 S shapeCasts_S1x128x128_S128x128) (constant S512x128 .f32 0x00000000#32))

theorem third_apply (A B : S512x512.Idx → Elt Ideal .bf16) (C S : S1x128x128.Idx → Elt Ideal .bf16) (r : Fin 512) (c : Fin 128) :
    third A B C S (ix2 r c) = group (fun k => A (ix2 r (⟨256 + k.val, by omega⟩ : Fin 512))) (fun k => B (ix2 r (⟨256 + k.val, by omega⟩ : Fin 512))) C S c := by
  unfold third group
  simp only [pointwise, zero_add]
  simp
  try rfl

theorem fourth_apply (A B : S512x512.Idx → Elt Ideal .bf16) (C S : S1x128x128.Idx → Elt Ideal .bf16) (r : Fin 512) (c : Fin 128) :
    fourth A B C S (ix2 r c) = group (fun k => A (ix2 r (⟨384 + k.val, by omega⟩ : Fin 512))) (fun k => B (ix2 r (⟨384 + k.val, by omega⟩ : Fin 512))) C S c := by
  unfold fourth group
  simp only [pointwise, zero_add]
  simp
  try rfl

/-- The four groups side by side. -/
def joined (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

theorem joined_apply (a b c d : S512x128.Idx → Elt Ideal .f32) (r q : Fin 512) :
    joined a b c d (ix2 r q) = if q.val < 128 then a (ix2 r (⟨q.val % 128, by omega⟩ : Fin 128)) else if q.val < 256 then b (ix2 r (⟨q.val % 128, by omega⟩ : Fin 128))
      else if q.val < 384 then c (ix2 r (⟨q.val % 128, by omega⟩ : Fin 128)) else d (ix2 r (⟨q.val % 128, by omega⟩ : Fin 128)) := by
  unfold joined
  simp only [pointwise]
  have hq : q.val < 512 := q.isLt
  by_cases h0 : q.val < 128
  · refine (dif_pos (show q.val < 128 from h0)).trans (Eq.trans ?_ (if_pos h0).symm)
    exact congrArg a (congrArg₂ ix2 (Fin.ext rfl) (Fin.ext (show q.val = q.val % 128 by omega)))
  refine (dif_neg (show ¬ q.val < 128 from h0)).trans (Eq.trans ?_ (if_neg h0).symm)
  by_cases h1 : q.val < 256
  · refine (dif_pos (show q.val - 128 < 128 by omega)).trans (Eq.trans ?_ (if_pos h1).symm)
    exact congrArg b (congrArg₂ ix2 (Fin.ext rfl) (Fin.ext (show q.val - 128 = q.val % 128 by omega)))
  refine (dif_neg (show ¬ q.val - 128 < 128 by omega)).trans (Eq.trans ?_ (if_neg h1).symm)
  by_cases h2 : q.val < 384
  · refine (dif_pos (show q.val - 128 - 128 < 128 by omega)).trans (Eq.trans ?_ (if_pos h2).symm)
    exact congrArg c (congrArg₂ ix2 (Fin.ext rfl) (Fin.ext (show q.val - 128 - 128 = q.val % 128 by omega)))
  refine (dif_neg (show ¬ q.val - 128 - 128 < 128 by omega)).trans (Eq.trans ?_ (if_neg h2).symm)
  exact congrArg d (congrArg₂ ix2 (Fin.ext rfl) (Fin.ext (show q.val - 128 - 128 - 128 = q.val % 128 by omega)))

/-- The body's end, of the joined groups: the norm, and the rows laid out in the block. -/
def closing (Z : FVec Ideal S512x512 .f32) (G : FVec Ideal S1x512 .f32) : FVec Ideal S1x64x8x512 .f32 :=
  shapeCast S1x64x8x512 (shapeCast S64x8x512 (mulf (mulf Z (broadcastTo S512x512
    (rsqrt (addf (divf (shapeCast S512x1 (multiReduction .add [1] S512 (mulf Z Z) 0x00000000#32 reduces_S512x512_S512 (.inl rfl) rfl) shapeCasts_S512_S512x1)
      (broadcast S512x1 (Scalar.ofBits .f32 0x44000000#32))) (broadcast S512x1 (Scalar.ofBits .f32 0x358637BD#32)))) broadcasts_S512x1_S512x512))
    (broadcastTo S512x512 (shapeCast S1x512 G shapeCasts_S1x512_S1x512) broadcasts_S1x512_S512x512)) shapeCasts_S512x512_S64x8x512) shapeCasts_S64x8x512_S1x64x8x512

theorem closing_apply (Z : S512x512.Idx → Elt Ideal .f32) (G : S1x512.Idx → Elt Ideal .f32) (k : Fin 64) (n : Fin 8) (d : Fin 512) :
    closing Z G (ix4 0 k n d) = normed (fun q => Z (ix2 (⟨k.val * 8 + n.val, by omega⟩ : Fin 512) q)) (fun q => G (ix2 0 q)) d := by
  unfold closing normed
  simp only [pointwise, zero_add]
  simp
  try rfl

theorem pay1_eq (A B : S512x512.Idx → Elt Ideal .bf16) (a b : S512x128.Idx → Elt Ideal .f32) (C2 S2 C3 S3 : S1x128x128.Idx → Elt Ideal .bf16) (G : S1x512.Idx → Elt Ideal .f32) :
    k0_pay1 (F := Ideal) A B a b (extractStridedSlice S512x128 ![0, 256] A slices_S512x512_o0_256_S512x128) (k0_pay8 (F := Ideal) C2) S2 C3 S3 G
      = closing (joined a b (third A B C2 S2) (fourth A B C3 S3)) G := rfl

end Cert.Kernel5Ideal.Fourier

end
-- ==== Proof.Fourier.Dense.lean ====
module

public import proofs.«01_k».proof.Proof.Fourier.Tile
public import proofs.«01_k».proof.Proof.Gen.Reference5Ideal.Run
public import proofs.«01_k».proof.Proof.Gen.Reference5Ideal.Read

@[expose] public section

set_option maxRecDepth 16384

noncomputable section

namespace Cert.Kernel5Ideal.Fourier

open Cert.Kernel5Ideal Cert.Kernel5Ideal.Gen
open Idealize.ShloMosaic Idealize.ShloMosaic.TcCoe Idealize.SL.Sem
open Cert.Reference5Ideal.Read

/-- The place of column `l` of part `a` in the layout of the first stage: blocks of 8 columns, in each the cosine row before the sine row. -/
def place (a : Fin 2) (l : Fin 64) : Fin 128 := ⟨l.val / 8 * 16 + a.val * 8 + l.val % 8, by omega⟩

/-- The reference's real part of the second stage. -/
theorem yr_apply (x0 : S8x64x128x512.Idx → Elt Ideal .bf16) (x1 : S64x64x2x64.Idx → Elt Ideal .f32) (b : Fin 8) (k n : Fin 64) (d : Fin 512) :
    val_main_v17 (F := Ideal) x0 x1 (ix4 b k n d)
      = ∑ l : Fin 64, x0 (ix4 b n (place 0 l) d) * x1 (ix4 n k 0 l) + ∑ l : Fin 64, x0 (ix4 b n (place 1 l) d) * -x1 (ix4 n k 1 l) := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  simp only [pointwise, zero_add]
  simp [place]
  try rfl

theorem yi_apply (x0 : S8x64x128x512.Idx → Elt Ideal .bf16) (x1 : S64x64x2x64.Idx → Elt Ideal .f32) (b : Fin 8) (k n : Fin 64) (d : Fin 512) :
    val_main_v22 (F := Ideal) x0 x1 (ix4 b k n d)
      = ∑ l : Fin 64, x0 (ix4 b n (place 0 l) d) * x1 (ix4 n k 1 l) + ∑ l : Fin 64, x0 (ix4 b n (place 1 l) d) * x1 (ix4 n k 0 l) := by
  unfold val_main_v22 val_main_v21 val_main_v20 val_main_v19 val_main_v18 val_main_v11 val_main_v10 val_main_v9 val_main_v8 val_main_v7 val_main_v6 val_main_v5 val_main_v4 val_main_v3 val_main_v2 val_main_v1 val_main_v0
  simp only [pointwise, zero_add]
  simp [place]
  try rfl

/-- The reference's mixing of a group's channels. -/
theorem mix_apply (x0 : S8x64x128x512.Idx → Elt Ideal .bf16) (x1 : S64x64x2x64.Idx → Elt Ideal .f32) (x2 x3 : S4x128x128.Idx → Elt Ideal .f32) (b : Fin 8) (k n : Fin 64) (q : Fin 512) :
    val_main_v30 (F := Ideal) x0 x1 x2 x3 (ix4 b k n q)
      = ∑ c : Fin 128, x2 (ix3 (⟨q.val / 128, by omega⟩ : Fin 4) c (⟨q.val % 128, by omega⟩ : Fin 128)) * val_main_v17 (F := Ideal) x0 x1 (ix4 b k n (⟨q.val / 128 * 128 + c.val, by omega⟩ : Fin 512))
        + ∑ c : Fin 128, x3 (ix3 (⟨q.val / 128, by omega⟩ : Fin 4) c (⟨q.val % 128, by omega⟩ : Fin 128)) * val_main_v22 (F := Ideal) x0 x1 (ix4 b k n (⟨q.val / 128 * 128 + c.val, by omega⟩ : Fin 512)) := by
  unfold val_main_v30 val_main_v29 val_main_v28 val_main_v27 val_main_v26 val_main_v25 val_main_v24 val_main_v23
  generalize val_main_v17 (F := Ideal) x0 x1 = A
  generalize val_main_v22 (F := Ideal) x0 x1 = B
  simp only [pointwise, zero_add]
  try rfl

/-- The reference's result. -/
theorem ref_apply (x0 : S8x64x128x512.Idx → Elt Ideal .bf16) (x1 : S64x64x2x64.Idx → Elt Ideal .f32) (x2 x3 : S4x128x128.Idx → Elt Ideal .f32) (x4 : S512.Idx → Elt Ideal .f32) (b : Fin 8) (k n : Fin 64) (d : Fin 512) :
    val_main_v43 (F := Ideal) x0 x1 x2 x3 x4 (ix4 b k n d)
      = normed (fun q => val_main_v30 (F := Ideal) x0 x1 x2 x3 (ix4 b k n q)) (fun q => x4 (ix1 q)) d := by
  unfold val_main_v43 val_main_v42 val_main_v41 val_main_v40 val_main_v39 val_main_v38 val_main_v37 val_main_v36 val_main_cst_1 val_main_v35 val_main_v34 val_main_cst_0 val_main_v33 val_main_v32 val_main_cst val_main_v31 normed
  generalize val_main_v30 (F := Ideal) x0 x1 x2 x3 = Z
  simp only [pointwise, zero_add]
  try rfl

end Cert.Kernel5Ideal.Fourier

end
-- ==== Proof.Fourier.Matrix.lean ====
module

public import proofs.«01_k».proof.Proof.Fourier.Dense
public import proofs.«01_k».proof.Proof.Gen.Kernel5Ideal.Frame
public import proofs.«01_k».proof.Proof.Moe.Refer
public import Idealize.ShloMosaic.Lib.Pipeline.Value

@[expose] public section

set_option maxRecDepth 16384

noncomputable section

namespace Cert.Kernel5Ideal.Fourier

open Cert.Kernel5Ideal Cert.Kernel5Ideal.Gen
open Idealize.ShloMosaic Idealize.ShloMosaic.TcCoe Idealize.SL.Sem
open Cert.KernelIdeal.Moe (bit_one bit_zero)

variable (m : (ℓ : Loc nD τ sig) → Buf (Elt Ideal) ℓ)

/-- One part of the table, with the two output indices and the input index. -/
def part0 (t : FVec Ideal S64x64x2x64 .f32) : FVec Ideal S64x64x64 .f32 :=
  shapeCast S64x64x64 (extractStridedSlice S64x64x1x64 ![0, 0, 0, 0] t slices_S64x64x2x64_S64x64x1x64_0_0_0_0) shapeCasts_S64x64x1x64_S64x64x64
def part1 (t : FVec Ideal S64x64x2x64 .f32) : FVec Ideal S64x64x64 .f32 :=
  shapeCast S64x64x64 (extractStridedSlice S64x64x1x64 ![0, 0, 1, 0] t slices_S64x64x2x64_S64x64x1x64_0_0_1_0) shapeCasts_S64x64x1x64_S64x64x64

/-- The table as the matrix of a complex product: the rows' part and the columns' part. -/
def square (t : FVec Ideal S64x64x2x64 .f32) : FVec Ideal S64x128x128 .f32 :=
  concatenate S64x128x128 1 [⟨S64x64x128, concatenate S64x64x128 2 [⟨S64x64x64, part0 t⟩, ⟨S64x64x64, Host.negf (part1 t)⟩] concatenates_S64x64x64_S64x64x64_S64x64x128_d2⟩,
    ⟨S64x64x128, concatenate S64x64x128 2 [⟨S64x64x64, part1 t⟩, ⟨S64x64x64, part0 t⟩] concatenates_S64x64x64_S64x64x64_S64x64x128_d2⟩] concatenates_S64x64x128_S64x64x128_S64x128x128_d1

/-- The matrix spread over the places of a block of 8. -/
def spread (q : FVec Ideal S64x128x128 .f32) : FVec Ideal S8x1024x1024 .bf16 :=
  truncf .bf16 (shapeCast S8x1024x1024 (mulf
    (broadcastInDim S8x128x8x8x128 ![0, 1, 2, 3, 4] bcast_S8x128x8x1x128_S8x128x8x8x128_0_1_2_3_4 (broadcastInDim S8x128x8x1x128 ![0, 1, 2, 4] bcast_S8x128x8x128_S8x128x8x1x128_0_1_2_4
      (transpose S8x128x8x128 [0, 2, 1, 3] (shapeCast S8x8x128x128 (transpose S64x128x8x2x8 [0, 1, 3, 2, 4] (shapeCast S64x128x2x8x8 q shapeCasts_S64x128x128_S64x128x2x8x8)
        transposes_S64x128x2x8x8_S64x128x8x2x8_0_1_3_2_4) shapeCasts_S64x128x8x2x8_S8x8x128x128) transposes_S8x8x128x128_S8x128x8x128_0_2_1_3)))
    (broadcastInDim S8x128x8x8x128 ![0, 1, 2, 3, 4] bcast_S1x1x8x8x1_S8x128x8x8x128_0_1_2_3_4 (broadcastInDim S1x1x8x8x1 ![2, 3, 4] bcast_S8x8x1_S1x1x8x8x1_2_3_4
      (broadcastInDim S8x8x1 ![0, 1] bcast_S8x8_S8x8x1_0_1 (uitofp (F := Ideal) .f32 (cmpi .eq (addi (iotaInDim S8x8 32 0) (broadcastInDim S8x8 ![] bcast_S_S8x8 (constantI S_ 32 0#32))) (iotaInDim S8x8 32 1)))))))
    shapeCasts_S8x128x8x8x128_S8x1024x1024) bitsLt_bf16_f32

theorem matrix (c : Dev nD) : V m c main_v25 = spread (square (m ((c : Thread nD τ).loc main_arg1))) := by
  unfold spread square part0 part1
  dsimp only [V, hostOps0]
  after_results_simp <;> rfl

theorem part0_apply (t : S64x64x2x64.Idx → Elt Ideal .f32) (n k l : Fin 64) : part0 t (ix3 n k l) = t (ix4 n k 0 l) := by
  unfold part0
  simp only [pointwise]
  simp
  try rfl

theorem part1_apply (t : S64x64x2x64.Idx → Elt Ideal .f32) (n k l : Fin 64) : part1 t (ix3 n k l) = t (ix4 n k 1 l) := by
  unfold part1
  simp only [pointwise]
  simp
  try rfl

theorem square00 (t : S64x64x2x64.Idx → Elt Ideal .f32) (n k l : Fin 64) :
    square t (ix3 n (⟨k.val, by omega⟩ : Fin 128) (⟨l.val, by omega⟩ : Fin 128)) = t (ix4 n k 0 l) := by
  unfold square
  refine Eq.trans ?_ (part0_apply t n k l)
  generalize part0 t = t0
  generalize part1 t = t1
  simp only [pointwise]
  refine (dif_pos trivial).trans ?_
  exact (dif_pos trivial)

theorem square01 (t : S64x64x2x64.Idx → Elt Ideal .f32) (n k l : Fin 64) :
    square t (ix3 n (⟨k.val, by omega⟩ : Fin 128) (⟨64 + l.val, by omega⟩ : Fin 128)) = -t (ix4 n k 1 l) := by
  unfold square
  refine Eq.trans ?_ (congrArg (fun z : EReal => -z) (part1_apply t n k l))
  generalize part0 t = t0
  generalize part1 t = t1
  simp only [pointwise]
  refine (dif_pos trivial).trans ?_
  refine ((dif_neg (fun h : False => h)).trans ?_)
  exact congrArg (fun z : Fin 64 => -t1 (ix3 n k z)) (Fin.ext (show 64 + l.val - 64 = l.val by omega))

theorem square10 (t : S64x64x2x64.Idx → Elt Ideal .f32) (n k l : Fin 64) :
    square t (ix3 n (⟨64 + k.val, by omega⟩ : Fin 128) (⟨l.val, by omega⟩ : Fin 128)) = t (ix4 n k 1 l) := by
  unfold square
  refine Eq.trans ?_ (part1_apply t n k l)
  generalize part0 t = t0
  generalize part1 t = t1
  simp only [pointwise]
  refine (dif_neg (fun h : False => h)).trans ?_
  refine ((dif_pos (show l.val < 64 from l.isLt)).trans ?_)
  exact congrArg (fun z : Fin 64 => t1 (ix3 n z l)) (Fin.ext (show 64 + k.val - 64 = k.val by omega))

theorem square11 (t : S64x64x2x64.Idx → Elt Ideal .f32) (n k l : Fin 64) :
    square t (ix3 n (⟨64 + k.val, by omega⟩ : Fin 128) (⟨64 + l.val, by omega⟩ : Fin 128)) = t (ix4 n k 0 l) := by
  unfold square
  refine Eq.trans ?_ (part0_apply t n k l)
  generalize part0 t = t0
  generalize part1 t = t1
  simp only [pointwise]
  refine (dif_neg (fun h : False => h)).trans ?_
  refine ((dif_neg (show ¬ 64 + l.val < 64 by omega)).trans ?_)
  exact congrArg₂ (fun y z : Fin 64 => t0 (ix3 n y z)) (Fin.ext (show 64 + k.val - 64 = k.val by omega)) (Fin.ext (show 64 + l.val - 64 = l.val by omega))

/-- The matrix's column for a place of the layout. -/
def column (s : Fin 128) : Fin 128 := ⟨s.val / 8 % 2 * 64 + s.val / 16 * 8 + s.val % 8, by omega⟩

theorem spread_apply (Q : S64x128x128.Idx → Elt Ideal .f32) (j : Fin 8) (r : Fin 128) (n n' : Fin 8) (s : Fin 128) :
    spread Q (ix3 j (⟨r.val * 8 + n.val, by omega⟩ : Fin 1024) (⟨n'.val * 128 + s.val, by omega⟩ : Fin 1024))
      = if n' = n then Q (ix3 (⟨j.val * 8 + n.val, by omega⟩ : Fin 64) r (column s)) else 0 := by
  unfold spread
  simp only [pointwise]
  show Q (ix3 (⟨j.val * 8 + n.val, by omega⟩ : Fin 64) r (column s)) * FloatOps.uitofp (F := Ideal) .f32
    (IntOp.cmpi .eq (IntOp.addi (BitVec.ofNat 32 n.val) 0#32) (BitVec.ofNat 32 n'.val)) = _
  have ez : ∀ a : BitVec 32, IntOp.addi a 0#32 = a := fun a => BitVec.add_zero a
  rw [ez]
  split
  · rename_i h
    rw [bit_one, mul_one]
    exact IntOp.cmpi_eq.mpr (by rw [h])
  · rename_i h
    rw [bit_zero, mul_zero]
    intro hh
    have hn := congrArg BitVec.toNat (IntOp.cmpi_eq.mp hh)
    rw [BitVec.toNat_ofNat, BitVec.toNat_ofNat, Nat.mod_eq_of_lt (show n.val < 2 ^ 32 by omega), Nat.mod_eq_of_lt (show n'.val < 2 ^ 32 by omega)] at hn
    exact h (Fin.ext hn.symm)

/-- A sum over the places of the layout is the sum over the cosine places and the sum over the sine places. -/
theorem sum_places (f : Fin 128 → EReal) : ∑ s : Fin 128, f s = ∑ l : Fin 64, f (place 0 l) + ∑ l : Fin 64, f (place 1 l) := by
  rw [← Finset.sum_add_distrib, Fin.sum_univ_tiles 8 16 rfl, Fin.sum_univ_tiles 8 8 rfl]
  refine Finset.sum_congr rfl fun u _ => ?_
  rw [Fin.sum_univ_tiles 2 8 rfl, Fin.sum_univ_two, ← Finset.sum_add_distrib]
  refine Finset.sum_congr rfl fun v _ => congrArg₂ (fun a b : EReal => a + b) (congrArg f (Fin.ext ?_)) (congrArg f (Fin.ext ?_))
  · show u.val * 16 + (0 * 8 + v.val) = (u.val * 8 + v.val) / 8 * 16 + 0 * 8 + (u.val * 8 + v.val) % 8
    omega
  · show u.val * 16 + (1 * 8 + v.val) = (u.val * 8 + v.val) / 8 * 16 + 1 * 8 + (u.val * 8 + v.val) % 8
    omega

theorem column0 (l : Fin 64) : column (place 0 l) = ⟨l.val, by omega⟩ :=
  Fin.ext (show (l.val / 8 * 16 + 0 * 8 + l.val % 8) / 8 % 2 * 64 + (l.val / 8 * 16 + 0 * 8 + l.val % 8) / 16 * 8 + (l.val / 8 * 16 + 0 * 8 + l.val % 8) % 8 = l.val by omega)
theorem column1 (l : Fin 64) : column (place 1 l) = ⟨64 + l.val, by omega⟩ :=
  Fin.ext (show (l.val / 8 * 16 + 1 * 8 + l.val % 8) / 8 % 2 * 64 + (l.val / 8 * 16 + 1 * 8 + l.val % 8) / 16 * 8 + (l.val / 8 * 16 + 1 * 8 + l.val % 8) % 8 = 64 + l.val by omega)

/-- The spread matrix against a block's rows: only the rows of the same place of the block count. -/
theorem collapse (Q : S64x128x128.Idx → Elt Ideal .f32) (j n : Fin 8) (r : Fin 128) (g : Fin 8 → Fin 128 → EReal) (M : Fin 1024 → EReal)
    (hM : ∀ q, M q = spread Q (ix3 j (⟨r.val * 8 + n.val, by omega⟩ : Fin 1024) q)) :
    ∑ q : Fin 1024, M q * g (⟨q.val / 128, by omega⟩ : Fin 8) (⟨q.val % 128, by omega⟩ : Fin 128)
      = ∑ l : Fin 64, Q (ix3 (⟨j.val * 8 + n.val, by omega⟩ : Fin 64) r (⟨l.val, by omega⟩ : Fin 128)) * g n (place 0 l)
        + ∑ l : Fin 64, Q (ix3 (⟨j.val * 8 + n.val, by omega⟩ : Fin 64) r (⟨64 + l.val, by omega⟩ : Fin 128)) * g n (place 1 l) := by
  have h := sum_places fun s => Q (ix3 (⟨j.val * 8 + n.val, by omega⟩ : Fin 64) r (column s)) * g n s
  simp only [column0, column1] at h
  refine Eq.trans ?_ h
  rw [Fin.sum_univ_tiles 8 128 rfl]
  have hg : ∀ (u : Fin 8) (s : Fin 128) (h1 h2), g (⟨(u.val * 128 + s.val) / 128, h1⟩ : Fin 8) (⟨(u.val * 128 + s.val) % 128, h2⟩ : Fin 128) = g u s := fun u s h1 h2 =>
    congrArg₂ g (Fin.ext (show (u.val * 128 + s.val) / 128 = u.val by omega)) (Fin.ext (show (u.val * 128 + s.val) % 128 = s.val by omega))
  refine (Finset.sum_eq_single n (fun u _ hu => ?_) (fun h => absurd (Finset.mem_univ _) h)).trans ?_
  · refine Finset.sum_eq_zero fun s _ => ?_
    refine (congrArg (fun a : EReal => a * _) ((hM _).trans ((spread_apply Q j r n u s).trans (if_neg hu)))).trans (zero_mul _)
  · refine Finset.sum_congr rfl fun s _ => ?_
    exact congrArg₂ (fun a b : EReal => a * b) ((hM _).trans ((spread_apply Q j r n n s).trans (if_pos rfl))) (hg n s _ _)

end Cert.Kernel5Ideal.Fourier

end
-- ==== Proof.Fourier.Out.lean ====
module

public import proofs.«01_k».proof.Proof.Fourier.Matrix

@[expose] public section

set_option maxRecDepth 16384

noncomputable section

namespace Cert.Kernel5Ideal.Fourier

open Cert.Kernel5Ideal Cert.Kernel5Ideal.Gen
open Idealize.ShloMosaic Idealize.ShloMosaic.TcCoe Idealize.SL.Sem

variable (m : (ℓ : Loc nD τ sig) → Buf (Elt Ideal) ℓ) (ρ : Dev nD → PrngReg)

/-- The batch element of a grid point. -/
def bat (t : Fin cfg0.N) : Fin 8 := ⟨t.val % 8, Nat.mod_lt _ (by decide)⟩
/-- The block of 8 columns of a grid point. -/
def grp (t : Fin cfg0.N) : Fin 8 := ⟨t.val / 8, Nat.div_lt_of_lt_mul (show t.val < 8 * 8 from t.isLt)⟩
/-- The column of a grid point's block at its place `n`. -/
def at8 (t : Fin cfg0.N) (n : Fin 8) : Fin 64 := ⟨(grp t).val * 8 + n.val, by omega⟩

theorem idx0 : ∀ t : Fin cfg0.N, win0_0.index t (0 : Fin 4) = t.val % 8 ∧ win0_0.index t (1 : Fin 4) = t.val / 8 ∧ win0_0.index t (2 : Fin 4) = 0 ∧ win0_0.index t (3 : Fin 4) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 4) = t.val % 8 ∧ win0_5.index t (1 : Fin 4) = 0 ∧ win0_5.index t (2 : Fin 4) = t.val / 8 ∧ win0_5.index t (3 : Fin 4) = 0 :=
  (by decide +kernel : ∀ t : Fin grid0.N, _)

/-! ## Each window's block, read at a place -/

theorem blk0 (c : Dev nD) (t : Fin cfg0.N) (n : Fin 8) (s : Fin 128) (d : Fin 512) :
    iblk m c 0 t (ix4 0 n s d : S1x8x128x512.Idx) = V m c main_arg0 (ix4 (bat t) (at8 t n) s d : S8x64x128x512.Idx) := by
  obtain ⟨e0, e1, e2, e3⟩ := idx0 t
  refine congrArg (V m c main_arg0) (funext fun a => Fin.ext ?_)
  match a with
  | ⟨0, _⟩ => show win0_0.index t (0 : Fin 4) * 1 + 1 * 0 = t.val % 8; omega
  | ⟨1, _⟩ => show win0_0.index t (1 : Fin 4) * 8 + 1 * n.val = t.val / 8 * 8 + n.val; omega
  | ⟨2, _⟩ => show win0_0.index t (2 : Fin 4) * 128 + 1 * s.val = s.val; omega
  | ⟨3, _⟩ => show win0_0.index t (3 : Fin 4) * 512 + 1 * d.val = d.val; omega
theorem blk1 (c : Dev nD) (t : Fin cfg0.N) (r q : Fin 1024) :
    iblk m c 1 t (ix3 0 r q : S1x1024x1024.Idx) = V m c main_v25 (ix3 (grp t) r q : S8x1024x1024.Idx) := by
  obtain ⟨e0, e1, e2⟩ := idx1 t
  refine congrArg (V m c main_v25) (funext fun a => Fin.ext ?_)
  match a with
  | ⟨0, _⟩ => show win0_1.index t (0 : Fin 3) * 1 + 1 * 0 = t.val / 8; omega
  | ⟨1, _⟩ => show win0_1.index t (1 : Fin 3) * 1024 + 1 * r.val = r.val; omega
  | ⟨2, _⟩ => show win0_1.index t (2 : Fin 3) * 1024 + 1 * q.val = q.val; omega
theorem blk2 (c : Dev nD) (t : Fin cfg0.N) (o : Fin 4) (k q : Fin 128) :
    iblk m c 2 t (ix3 o k q : S4x128x128.Idx) = V m c main_v26 (ix3 o k q : S4x128x128.Idx) := by
  obtain ⟨e0, e1, e2⟩ := idx2 t
  refine congrArg (V m c main_v26) (funext fun a => Fin.ext ?_)
  match a with
  | ⟨0, _⟩ => show win0_2.index t (0 : Fin 3) * 4 + 1 * o.val = o.val; omega
  | ⟨1, _⟩ => show win0_2.index t (1 : Fin 3) * 128 + 1 * k.val = k.val; omega
  | ⟨2, _⟩ => show win0_2.index t (2 : Fin 3) * 128 + 1 * q.val = q.val; omega
theorem blk3 (c : Dev nD) (t : Fin cfg0.N) (o : Fin 4) (k q : Fin 128) :
    iblk m c 3 t (ix3 o k q : S4x128x128.Idx) = V m c main_v27 (ix3 o k q : S4x128x128.Idx) := by
  obtain ⟨e0, e1, e2⟩ := idx3 t
  refine congrArg (V m c main_v27) (funext fun a => Fin.ext ?_)
  match a with
  | ⟨0, _⟩ => show win0_3.index t (0 : Fin 3) * 4 + 1 * o.val = o.val; omega
  | ⟨1, _⟩ => show win0_3.index t (1 : Fin 3) * 128 + 1 * k.val = k.val; omega
  | ⟨2, _⟩ => show win0_3.index t (2 : Fin 3) * 128 + 1 * q.val = q.val; omega
theorem blk4 (c : Dev nD) (t : Fin cfg0.N) (d : Fin 512) :
    iblk m c 4 t (ix2 0 d : S1x512.Idx) = V m c main_v28 (ix2 0 d : S1x512.Idx) := by
  obtain ⟨e0, e1⟩ := idx4 t
  refine congrArg (V m c main_v28) (funext fun a => Fin.ext ?_)
  match a with
  | ⟨0, _⟩ => show win0_4.index t (0 : Fin 2) * 1 + 1 * 0 = 0; omega
  | ⟨1, _⟩ => show win0_4.index t (1 : Fin 2) * 512 + 1 * d.val = d.val; omega

/-! ## The arrays the call finds -/

theorem cos_table (c : Dev nD) : V m c main_v26 = truncf (F := Ideal) .bf16 (m ((c : Thread nD τ).loc main_arg2)) bitsLt_bf16_f32 := by
  dsimp only [V, hostOps0]
  after_results_simp <;> rfl
theorem sin_table (c : Dev nD) : V m c main_v27 = truncf (F := Ideal) .bf16 (m ((c : Thread nD τ).loc main_arg3)) bitsLt_bf16_f32 := by
  dsimp only [V, hostOps0]
  after_results_simp <;> rfl
theorem gain (c : Dev nD) : V m c main_v28 = shapeCast S1x512 (m ((c : Thread nD τ).loc main_arg4)) shapeCasts_S512_S1x512 := by
  dsimp only [V, hostOps0]
  after_results_simp <;> rfl

/-! ## The groups of channels -/

/-- The mixing of the channels of a row, of the real rows `A` and the imaginary rows `B`. -/
def mixed (A B : Fin 512 → EReal) (C S : S4x128x128.Idx → EReal) (q : Fin 512) : EReal :=
  ∑ k : Fin 128, A (⟨q.val / 128 * 128 + k.val, by omega⟩ : Fin 512) * C (ix3 (⟨q.val / 128, by omega⟩ : Fin 4) k (⟨q.val % 128, by omega⟩ : Fin 128))
    + ∑ k : Fin 128, B (⟨q.val / 128 * 128 + k.val, by omega⟩ : Fin 512) * S (ix3 (⟨q.val / 128, by omega⟩ : Fin 4) k (⟨q.val % 128, by omega⟩ : Fin 128))

theorem group_eq (A B : Fin 512 → EReal) (C S : S4x128x128.Idx → EReal) (C1 S1 : S1x128x128.Idx → Elt Ideal .bf16) (o : Fin 4)
    (hC : ∀ k c : Fin 128, C1 (ix3 0 k c) = C (ix3 o k c)) (hS : ∀ k c : Fin 128, S1 (ix3 0 k c) = S (ix3 o k c)) (q : Fin 512) (hq : q.val / 128 = o.val)
    (f : Fin 128 → Fin 512) (hf : ∀ k, (f k).val = o.val * 128 + k.val) :
    group (fun k => A (f k)) (fun k => B (f k)) C1 S1 (⟨q.val % 128, by omega⟩ : Fin 128) = mixed A B C S q := by
  have ho : (⟨q.val / 128, by omega⟩ : Fin 4) = o := Fin.ext hq
  have hk : ∀ k : Fin 128, f k = (⟨q.val / 128 * 128 + k.val, by omega⟩ : Fin 512) := fun k => Fin.ext (show (f k).val = q.val / 128 * 128 + k.val by rw [hf, hq])
  unfold group mixed
  rw [ho]
  refine congrArg₂ (fun a b : EReal => a + b) (Finset.sum_congr rfl fun k _ => ?_) (Finset.sum_congr rfl fun k _ => ?_)
  · exact congrArg₂ (fun a b : EReal => a * b) (congrArg A (hk k)) (hC k _)
  · exact congrArg₂ (fun a b : EReal => a * b) (congrArg B (hk k)) (hS k _)

theorem ld0 (C : Vec Ideal S4x128x128 .bf16) (k c : Fin 128) : View.ld C r0_2 (ix3 0 k c : S1x128x128.Idx) = C (ix3 0 k c) := by
  refine congrArg C (funext fun a => Fin.ext ?_)
  match a with
  | ⟨0, _⟩ => rfl
  | ⟨1, _⟩ => show 0 + 1 * k.val = k.val; omega
  | ⟨2, _⟩ => show 0 + 1 * c.val = c.val; omega
theorem ld1 (C : Vec Ideal S4x128x128 .bf16) (k c : Fin 128) : View.ld C r0_3 (ix3 0 k c : S1x128x128.Idx) = C (ix3 1 k c) := by
  refine congrArg C (funext fun a => Fin.ext ?_)
  match a with
  | ⟨0, _⟩ => rfl
  | ⟨1, _⟩ => show 0 + 1 * k.val = k.val; omega
  | ⟨2, _⟩ => show 0 + 1 * c.val = c.val; omega
theorem ld2 (C : Vec Ideal S4x128x128 .bf16) (k c : Fin 128) : View.ld C r0_4 (ix3 0 k c : S1x128x128.Idx) = C (ix3 2 k c) := by
  refine congrArg C (funext fun a => Fin.ext ?_)
  match a with
  | ⟨0, _⟩ => rfl
  | ⟨1, _⟩ => show 0 + 1 * k.val = k.val; omega
  | ⟨2, _⟩ => show 0 + 1 * c.val = c.val; omega
theorem ld3 (C : Vec Ideal S4x128x128 .bf16) (k c : Fin 128) : View.ld C r0_5 (ix3 0 k c : S1x128x128.Idx) = C (ix3 3 k c) := by
  refine congrArg C (funext fun a => Fin.ext ?_)
  match a with
  | ⟨0, _⟩ => rfl
  | ⟨1, _⟩ => show 0 + 1 * k.val = k.val; omega
  | ⟨2, _⟩ => show 0 + 1 * c.val = c.val; omega

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

section
variable (x0 : Vec Ideal S1x8x128x512 .bf16) (x1 : Vec Ideal S1x1024x1024 .bf16) (x2 x3 : Vec Ideal S4x128x128 .bf16) (x4 : Vec Ideal S1x512 .f32)

/-- The four groups of a block's rows. -/
def joinedOf : FVec Ideal S512x512 .f32 :=
  joined (k0_pay5 x0 x1 (View.ld x2 r0_2) (View.ld x3 r0_2)) (k0_pay6 x0 x1 (View.ld x2 r0_3) (View.ld x3 r0_3))
    (third (k0_pay3 x0 x1) (k0_pay4 x0 x1) (View.ld x2 r0_4) (View.ld x3 r0_4)) (fourth (k0_pay3 x0 x1) (k0_pay4 x0 x1) (View.ld x2 r0_5) (View.ld x3 r0_5))

/-- What the body leaves in the result's buffer. -/
theorem out_eq : out0_5 x0 x1 x2 x3 x4 = closing (joinedOf x0 x1 x2 x3) x4 := by
  unfold out0_5
  rw [View.canon_unit_zero hz4, View.ld_unit_zero (S := S1x8x128x512) hz4, View.ld_unit_zero (S := S1x1024x1024) hz3, View.ld_unit_zero (S := S1x512) hz2]
  exact pay1_eq _ _ _ _ _ _ _ _ _

theorem joinedOf_apply (r q : Fin 512) :
    joinedOf x0 x1 x2 x3 (ix2 r q) = mixed (fun k => k0_pay3 (F := Ideal) x0 x1 (ix2 r k)) (fun k => k0_pay4 (F := Ideal) x0 x1 (ix2 r k)) x2 x3 q := by
  unfold joinedOf
  rw [joined_apply]
  have hq : q.val < 512 := q.isLt
  split
  · rw [pay5_apply]
    exact group_eq (fun k => k0_pay3 (F := Ideal) x0 x1 (ix2 r k)) (fun k => k0_pay4 (F := Ideal) x0 x1 (ix2 r k)) x2 x3 _ _ 0 (ld0 x2) (ld0 x3) q (show q.val / 128 = 0 by omega) (fun k => (⟨k.val, by omega⟩ : Fin 512)) (fun k => (show k.val = 0 * 128 + k.val by omega))
  · split
    · rw [pay6_apply]
      exact group_eq (fun k => k0_pay3 (F := Ideal) x0 x1 (ix2 r k)) (fun k => k0_pay4 (F := Ideal) x0 x1 (ix2 r k)) x2 x3 _ _ 1 (ld1 x2) (ld1 x3) q (show q.val / 128 = 1 by omega) (fun k => (⟨128 + k.val, by omega⟩ : Fin 512)) (fun k => (show 128 + k.val = 1 * 128 + k.val by omega))
    · split
      · rw [third_apply]
        exact group_eq (fun k => k0_pay3 (F := Ideal) x0 x1 (ix2 r k)) (fun k => k0_pay4 (F := Ideal) x0 x1 (ix2 r k)) x2 x3 _ _ 2 (ld2 x2) (ld2 x3) q (show q.val / 128 = 2 by omega) (fun k => (⟨256 + k.val, by omega⟩ : Fin 512)) (fun k => (show 256 + k.val = 2 * 128 + k.val by omega))
      · rw [fourth_apply]
        exact group_eq (fun k => k0_pay3 (F := Ideal) x0 x1 (ix2 r k)) (fun k => k0_pay4 (F := Ideal) x0 x1 (ix2 r k)) x2 x3 _ _ 3 (ld3 x2) (ld3 x3) q (show q.val / 128 = 3 by omega) (fun k => (⟨384 + k.val, by omega⟩ : Fin 512)) (fun k => (show 384 + k.val = 3 * 128 + k.val by omega))
end

theorem mixed_eq {A A' B B' : Fin 512 → EReal} {C C' S S' : S4x128x128.Idx → EReal} (q : Fin 512) (hA : ∀ k, A k = A' k) (hB : ∀ k, B k = B' k)
    (hC : ∀ o k c, C (ix3 o k c) = C' (ix3 o k c)) (hS : ∀ o k c, S (ix3 o k c) = S' (ix3 o k c)) : mixed A B C S q = mixed A' B' C' S' q := by
  unfold mixed
  rw [funext hA, funext hB]
  simp only [hC, hS]

theorem normed_eq {X X' G G' : Fin 512 → EReal} (d : Fin 512) (hX : ∀ q, X q = X' q) (hG : ∀ q, G q = G' q) : normed X G d = normed X' G' d := by
  rw [funext hX, funext hG]

section
variable (c : Dev nD)

/-- The five arguments on core `c`. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)

/-- The product of a point's matrix with its rows: the two sums over the table of the place's own column. -/
theorem rows_at (t : Fin cfg0.N) (r : Fin 128) (n : Fin 8) (d : Fin 512) :
    k0_pay2 (F := Ideal) (iblk m c 0 t) (iblk m c 1 t) (ix2 (⟨r.val * 8 + n.val, by omega⟩ : Fin 1024) d)
      = ∑ l : Fin 64, square (A1 m c) (ix3 (at8 t n) r (⟨l.val, by omega⟩ : Fin 128)) * A0 m c (ix4 (bat t) (at8 t n) (place 0 l) d)
        + ∑ l : Fin 64, square (A1 m c) (ix3 (at8 t n) r (⟨64 + l.val, by omega⟩ : Fin 128)) * A0 m c (ix4 (bat t) (at8 t n) (place 1 l) d) := by
  have hg : ∀ (u : Fin 8) (s : Fin 128), iblk m c 0 t (ix4 0 u s d : S1x8x128x512.Idx) = A0 m c (ix4 (bat t) (at8 t u) s d) := fun u s =>
    (blk0 m c t u s d).trans (congrFun (V_main_arg0 m c) _)
  refine (pay2_apply _ _ _ d).trans ((collapse (square (A1 m c)) (grp t) n r (fun u s => iblk m c 0 t (ix4 0 u s d : S1x8x128x512.Idx))
    (fun q => iblk m c 1 t (ix3 0 (⟨r.val * 8 + n.val, by omega⟩ : Fin 1024) q : S1x1024x1024.Idx)) (fun q => ?_)).trans ?_)
  · rw [← matrix m c]
    exact blk1 m c t _ q
  · refine congrArg₂ (fun a b : EReal => a + b) (Finset.sum_congr rfl fun l _ => ?_) (Finset.sum_congr rfl fun l _ => ?_)
    · exact congrArg (fun a : EReal => _ * a) (hg n _)
    · exact congrArg (fun a : EReal => _ * a) (hg n _)

open Cert.Reference5Ideal.Read

/-- The real rows are the reference's. -/
theorem real_at (t : Fin cfg0.N) (k : Fin 64) (n : Fin 8) (d : Fin 512) :
    k0_pay3 (F := Ideal) (iblk m c 0 t) (iblk m c 1 t) (ix2 (⟨k.val * 8 + n.val, by omega⟩ : Fin 512) d)
      = val_main_v17 (F := Ideal) (A0 m c) (A1 m c) (ix4 (bat t) k (at8 t n) d) := by
  refine (pay3_apply _ _ _ d).trans ((rows_at m c t (⟨k.val, by omega⟩ : Fin 128) n d).trans (Eq.trans ?_ (yr_apply _ _ _ _ _ _).symm))
  refine congrArg₂ (fun a b : EReal => a + b) (Finset.sum_congr rfl fun l _ => ?_) (Finset.sum_congr rfl fun l _ => ?_)
  · exact (congrArg (fun a : EReal => a * _) (square00 _ _ k l)).trans (mul_comm _ _)
  · exact (congrArg (fun a : EReal => a * _) (square01 _ _ k l)).trans (mul_comm _ _)

/-- The imaginary rows are the reference's. -/
theorem imag_at (t : Fin cfg0.N) (k : Fin 64) (n : Fin 8) (d : Fin 512) :
    k0_pay4 (F := Ideal) (iblk m c 0 t) (iblk m c 1 t) (ix2 (⟨k.val * 8 + n.val, by omega⟩ : Fin 512) d)
      = val_main_v22 (F := Ideal) (A0 m c) (A1 m c) (ix4 (bat t) k (at8 t n) d) := by
  have e : (⟨512 + (k.val * 8 + n.val), by omega⟩ : Fin 1024) = ⟨(64 + k.val) * 8 + n.val, by omega⟩ := Fin.ext (show 512 + (k.val * 8 + n.val) = (64 + k.val) * 8 + n.val by omega)
  refine (pay4_apply _ _ _ d).trans ((congrArg (fun z : Fin 1024 => k0_pay2 (F := Ideal) (iblk m c 0 t) (iblk m c 1 t) (ix2 z d)) e).trans
    ((rows_at m c t (⟨64 + k.val, by omega⟩ : Fin 128) n d).trans (Eq.trans ?_ (yi_apply _ _ _ _ _ _).symm)))
  refine congrArg₂ (fun a b : EReal => a + b) (Finset.sum_congr rfl fun l _ => ?_) (Finset.sum_congr rfl fun l _ => ?_)
  · exact (congrArg (fun a : EReal => a * _) (square10 _ _ k l)).trans (mul_comm _ _)
  · exact (congrArg (fun a : EReal => a * _) (square11 _ _ k l)).trans (mul_comm _ _)

/-- The call's result: the reference's. -/
def found : S8x64x64x512.Idx → Elt Ideal .f32 := val_main_v43 (F := Ideal) (A0 m c) (A1 m c) (A2 m c) (A3 m c) (A4 m c)

/-- A point's block of the result, at a place. -/
theorem block_at (t : Fin cfg0.N) (k : Fin 64) (n : Fin 8) (d : Fin 512) :
    closing (joinedOf (iblk m c 0 t) (iblk m c 1 t) (iblk m c 2 t) (iblk m c 3 t)) (iblk m c 4 t) (ix4 0 k n d) = found m c (ix4 (bat t) k (at8 t n) d) := by
  refine (closing_apply _ _ k n d).trans (Eq.trans ?_ (ref_apply _ _ _ _ _ _ _ _ d).symm)
  refine normed_eq d (fun q => ?_) (fun q => ?_)
  · refine (joinedOf_apply _ _ _ _ _ q).trans (Eq.trans ?_ (mix_apply _ _ _ _ _ _ _ q).symm)
    refine (mixed_eq (C' := A2 m c) (S' := A3 m c) q (fun d => real_at m c t k n d) (fun d => imag_at m c t k n d) (fun o a b => ?_) (fun o a b => ?_)).trans ?_
    · refine (blk2 m c t o a b).trans ?_
      rw [cos_table]; simp only [pointwise]
    · refine (blk3 m c t o a b).trans ?_
      rw [sin_table]; simp only [pointwise]
    · unfold mixed
      exact congrArg₂ (fun a b : EReal => a + b) (Finset.sum_congr rfl fun _ _ => mul_comm _ _) (Finset.sum_congr rfl fun _ _ => mul_comm _ _)
  · refine (blk4 m c t q).trans ?_
    rw [gain]; simp only [pointwise]

theorem emb5 (t : Fin cfg0.N) (y : S1x64x8x512.Idx) :
    (((cfg0.win 5).blk t).view.emb y : S8x64x64x512.Idx) = ix4 (bat t) (y 1) (at8 t (y 2)) (y 3) := by
  obtain ⟨e0, e1, e2, e3⟩ := idx5 t
  have hy : (y 0).val < 1 := (y 0).isLt
  funext a; apply Fin.ext
  match a with
  | ⟨0, _⟩ => show win0_5.index t (0 : Fin 4) * 1 + 1 * (y 0).val = t.val % 8; omega
  | ⟨1, _⟩ => show win0_5.index t (1 : Fin 4) * 64 + 1 * (y 1).val = (y 1).val; omega
  | ⟨2, _⟩ => show win0_5.index t (2 : Fin 4) * 8 + 1 * (y 2).val = t.val / 8 * 8 + (y 2).val; omega
  | ⟨3, _⟩ => show win0_5.index t (3 : Fin 4) * 512 + 1 * (y 3).val = (y 3).val; omega

theorem block_eq (t : Fin cfg0.N) (y : S1x64x8x512.Idx) :
    closing (joinedOf (iblk m c 0 t) (iblk m c 1 t) (iblk m c 2 t) (iblk m c 3 t)) (iblk m c 4 t) y = found m c (((cfg0.win 5).blk t).view.emb y) := by
  rw [emb5]
  have hy0 : y 0 = (0 : Fin 1) := Subsingleton.elim (α := Fin 1) _ _
  have hy : y = ix4 0 (y 1) (y 2) (y 3) := by
    funext a
    match a with
    | ⟨0, _⟩ => exact hy0
    | ⟨1, _⟩ => rfl
    | ⟨2, _⟩ => rfl
    | ⟨3, _⟩ => rfl
  exact (congrArg (closing (joinedOf (iblk m c 0 t) (iblk m c 1 t) (iblk m c 2 t) (iblk m c 3 t)) (iblk m c 4 t)) hy).trans (block_at m c t (y 1) (y 2) (y 3))

/-- What a point writes back is its block of the result. -/
theorem flushed_eq (t : Fin cfg0.N) :
    (Cert.Kernel5Ideal.Gen.dats (F := Ideal) m 0 c).flushed 5 t = ((cfg0.win 5).blk t).view.read (Elt Ideal) (found m c) := by
  show (cfg0.win 5).cut (grid0.coords t) ((dats m 0 c).after 5 t) = _
  rw [after0_5, out_eq]
  exact funext fun y => block_eq m c t y

/-- The points' blocks cover the result array. -/
theorem covered (j : S8x64x64x512.Idx) :
    ∃ t : Fin cfg0.N, (cfg0.win 5).flush t = true ∧ j ∈ ((cfg0.win 5).blk t).view.set := by
  have h0 : (j 0).val < 8 := (j 0).isLt
  have h1 : (j 2).val < 64 := (j 2).isLt
  let t : Fin cfg0.N := (⟨(j 2).val / 8 * 8 + (j 0).val, by omega⟩ : Fin 64)
  refine ⟨t, flush0_5 t, ?_⟩
  have h := ((cfg0.win 5).blk t).view.emb_mem_set (ix4 0 (j 1) (⟨(j 2).val % 8, Nat.mod_lt _ (by decide)⟩ : Fin 8) (j 3) : S1x64x8x512.Idx)
  rw [emb5] at h
  have e : (ix4 (bat t) (j 1) (at8 t (⟨(j 2).val % 8, Nat.mod_lt _ (by decide)⟩ : Fin 8)) (j 3) : S8x64x64x512.Idx) = j := by
    funext a; apply Fin.ext
    match a with
    | ⟨0, _⟩ => show ((j 2).val / 8 * 8 + (j 0).val) % 8 = (j 0).val; omega
    | ⟨1, _⟩ => rfl
    | ⟨2, _⟩ => show ((j 2).val / 8 * 8 + (j 0).val) / 8 * 8 + (j 2).val % 8 = (j 2).val; omega
    | ⟨3, _⟩ => rfl
  exact e ▸ h

/-- The result array at the end of the run. -/
theorem final : (Cert.Kernel5Ideal.Gen.dats (F := Ideal) m 0 c).arrAt 5 cfg0.N = found m c :=
  (Cert.Kernel5Ideal.Gen.dats (F := Ideal) m 0 c).arrAt_eq_of_cover 5 (found m c) (fun t _ => flushed_eq m c t) covered

end

/-- The run: the result array is the result, and the arguments are as launched. -/
theorem values : θ_run (defs (F := Ideal)) (onTc (τ := τ) (main (F := Ideal))) ⟨m, fun _ => 0, ρ⟩ fun r => ∀ c : Dev nD,
      r.2.mem ((c : Thread nD τ).loc main_v29) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun r h (c : Dev nD) => ⟨((h.1 c).1 5).trans (final m c), h.2 c⟩)
    (θ_run_and (run_main (F := Ideal) m ρ) (unchanged (F := Ideal) m ρ))

end Cert.Kernel5Ideal.Fourier

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_experts_exist
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Moe.Refer
public import proofs.«01_k».proof.Proof.Final.Rows
public import proofs.«01_k».proof.Proof.Inproj.Rows
public import proofs.«01_k».proof.Proof.Adaln.Out
public import proofs.«01_k».proof.Proof.Fourier.Out
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The precondition, read: every tile's expert is below 32. -/
theorem exist_of_pre {F : FTy → Type} [FloatOps F] (a0 : IVec Cert.KernelIdeal.S160 32) (a1 : IVec Cert.KernelIdeal.S1 32)
    (a2 : FVec F Cert.KernelIdeal.S81920x1024 .bf16) (a3 a4 : FVec F Cert.KernelIdeal.S32x1024x256 .f32) (a5 : FVec F Cert.KernelIdeal.S32x256x1024 .f32)
    (h : Cert.Pre_experts_exist.fn (F := F) a0 a1 a2 a3 a4 a5 = fun _ => 1#1) : Cert.KernelIdeal.Moe.Exist (F := F) a0 := by
  intro k
  have hk := congrFun h k
  have hb : IntOp.andi (IntOp.cmpi .sge (a0 k) 0#32) (IntOp.cmpi .slt (a0 k) 32#32) = 1#1 := hk
  obtain ⟨h0, h1⟩ := IntOp.andi_eq_one.mp hb
  have h0 := IntOp.cmpi_sge.mp h0
  have h1 := IntOp.cmpi_slt.mp h1
  have z0 : (0#32 : BitVec 32).toInt = 0 := by decide
  have z1 : (32#32 : BitVec 32).toInt = 32 := by decide
  rw [z0] at h0
  rw [z1] at h1
  rw [BitVec.toInt_eq_toNat_cond] at h0 h1
  have hlt : (a0 k).toNat < 4294967296 := (a0 k).isLt
  show (a0 k).toNat < 32
  split at h0 <;> omega

section Run

open Cert.KernelIdeal

variable {F : FTy → Type} [FloatOps F] (m : (ℓ : Loc nD τ sig) → Buf (Elt F) ℓ) (ρ : Dev nD → PrngReg)

/-- The one device. -/
abbrev dev : Dev nD := (0 : Fin 1)

/-- The tables as the one device holds them. -/
theorem held : Moe.Held (F := F) (m ((dev : Thread nD τ).loc main_arg0)) (m ((dev : Thread nD τ).loc main_arg1)) m :=
  ⟨fun c => by rw [Subsingleton.elim c dev], fun c => by rw [Subsingleton.elim c dev]⟩

end Run

/-- The two printings of the kernel have the same text: the body's calls agree. -/
theorem bodies : Cert.Kernel.defs₀ (F := Bits) = Cert.KernelIdeal.defs₀ (F := Bits) := by
  delta Cert.Kernel.defs₀ Cert.KernelIdeal.defs₀
  congr 1
  funext l x
  match l, x with
  | 0, (t, s) => rfl

/-- So the programs' calls agree. -/
theorem calls : Cert.Kernel.defs (F := Bits) = Cert.KernelIdeal.defs (F := Bits) := by
  delta Cert.Kernel.defs Cert.KernelIdeal.defs
  exact congrArg (Pipeline.defs (Cert.KernelIdeal.pcfgs (F := Bits))) bodies

theorem frame_kernel : Cert.quiescent_Kernel := fun m ρ hp => by
  refine Eq.mpr (congrArg (fun d => (θ_run d (onTc (Cert.Kernel.main (F := Bits))) ⟨m, fun _ => 0, ρ⟩) _) calls) ?_
  exact (θ_run (Cert.KernelIdeal.defs (F := Bits)) _ _).mono (fun _ h => h)
    (Cert.KernelIdeal.Moe.frame (F := Bits) _ _ (exist_of_pre _ _ _ _ _ _ (hp dev)) m ρ (held (F := Bits) m))

theorem frame_ideal : Cert.quiescent_KernelIdeal := fun m ρ hp =>
  (θ_run (Cert.KernelIdeal.defs (F := Ideal)) _ _).mono (fun _ h => h)
    (Cert.KernelIdeal.Moe.frame (F := Ideal) _ _ (exist_of_pre _ _ _ _ _ _ (hp dev)) m ρ (held (F := Ideal) m))

/-- The reference has no semaphores, so its run's frame is its run's arguments. -/
theorem frame_reference : Cert.quiescent_ReferenceIdeal := fun m ρ _ =>
  (θ_run (Cert.ReferenceIdeal.defs (F := Ideal)) _ _).mono (fun r h => ⟨fun c => (h c).2, sem_eq_zero_of_no_sems (by decide) _⟩)
    (Cert.ReferenceIdeal.Value.run (F := Ideal) m ρ)

theorem frame_reference_pre : Cert.quiescent_ReferenceIdeal_pre_experts_exist := fun m ρ _ => frame_reference m ρ trivial

/-- At the ideal instance the kernel's result is the dense reference's. -/
theorem algebraic : Cert.algebraic_KernelIdeal_ReferenceIdeal := by
  intro m g m' g' hp hag
  have hT := exist_of_pre (F := Ideal) _ _ _ _ _ _ (hp dev)
  refine ⟨fun c => Cert.KernelIdeal.Moe.result (F := Ideal) (m ((dev : Thread Cert.KernelIdeal.nD Cert.KernelIdeal.τ).loc Cert.KernelIdeal.main_arg0)) (m ((dev : Thread Cert.KernelIdeal.nD Cert.KernelIdeal.τ).loc Cert.KernelIdeal.main_arg1))
    (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)), ?_, ?_⟩
  · exact (θ_run (Cert.KernelIdeal.defs (F := Ideal)) _ _).mono
      (fun _ h c => ⟨((h.1 c).1).trans (Cert.KernelIdeal.Moe.final _ _ hT m g c), (h.1 c).2⟩)
      (Cert.KernelIdeal.Moe.values (F := Ideal) _ _ hT m g (held (F := Ideal) m))
  · refine (θ_run (Cert.ReferenceIdeal.defs (F := Ideal)) _ _).mono (fun r h c => ⟨((h c).1).trans ?_, (h c).2⟩)
      (Cert.ReferenceIdeal.Value.run (F := Ideal) m' g')
    obtain ⟨e0, e1, e2, e3, e4, e5⟩ := hag c
    refine (Cert.ReferenceIdeal.Read.val_main_v22_eq (F := Ideal) _ _ _ _ _ _).trans ?_
    refine Eq.trans ?_ (Cert.KernelIdeal.Moe.result_eq _ _ _ _ _ _ hT).symm
    obtain rfl : c = dev := Subsingleton.elim c dev
    rw [e0, e1, e2, e3, e4, e5]

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run (Cert.Reference2Ideal.defs (F := Ideal)) _ _).mono (fun r h => ⟨fun c => (h c).2, sem_eq_zero_of_no_sems (by decide) _⟩)
    (Cert.Reference2Ideal.Value.run (F := Ideal) m ρ)

/-- At the ideal instance the last call's result is its reference's. -/
theorem algebraic2 : Cert.algebraic_Kernel2Ideal_Reference2Ideal := by
  intro m g m' g' _ hag
  refine ⟨fun c => Cert.Kernel2Ideal.Final.found m c, ?_, ?_⟩
  · exact (θ_run (Cert.Kernel2Ideal.defs (F := Ideal)) _ _).mono
      (fun _ h c => ⟨((h c).1).trans (Cert.Kernel2Ideal.Final.final m c), (h c).2⟩)
      (Cert.Kernel2Ideal.Value.run_blocks (F := Ideal) m g)
  · refine (θ_run (Cert.Reference2Ideal.defs (F := Ideal)) _ _).mono (fun r h c => ⟨((h c).1).trans ?_, (h c).2⟩)
      (Cert.Reference2Ideal.Value.run (F := Ideal) m' g')
    obtain ⟨e0, e1, e2, e3, e4, e5⟩ := hag c
    refine (Cert.Reference2Ideal.Read.val_main_v44_eq (F := Ideal) _ _).trans ?_
    refine Eq.trans ?_ (Cert.Kernel2Ideal.Final.result_eq m c).symm
    rw [e0, e1, e2, e3, e4, e5]

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run (Cert.Reference3Ideal.defs (F := Ideal)) _ _).mono (fun r h => ⟨fun c => (h c).2.2, sem_eq_zero_of_no_sems (by decide) _⟩)
    (Cert.Reference3Ideal.Value.run (F := Ideal) m ρ)

/-- At the ideal instance the first call's two results are its reference's. -/
theorem algebraic3 : Cert.algebraic_Kernel3Ideal_Reference3Ideal := by
  intro m g m' g' _ hag
  refine ⟨fun c => Cert.Kernel3Ideal.Inproj.found6 m c, fun c => Cert.Kernel3Ideal.Inproj.found7 m c, ?_, ?_⟩
  · exact Cert.Kernel3Ideal.Inproj.values m g
  · refine (θ_run (Cert.Reference3Ideal.defs (F := Ideal)) _ _).mono (fun r h c => ⟨((h c).1).trans ?_, ((h c).2.1).trans ?_, (h c).2.2⟩)
      (Cert.Reference3Ideal.Value.run (F := Ideal) m' g')
    · obtain ⟨e0, e1, e2, e3, e4, e5⟩ := hag c
      refine (Cert.Reference3Ideal.Read.val_main_v26_eq (F := Ideal) _ _ _ _ _).trans ?_
      refine Eq.trans ?_ (Cert.Kernel3Ideal.Inproj.first_eq m c).symm
      rw [e0, e1, e2, e3, e4]
    · obtain ⟨e0, e1, e2, e3, e4, e5⟩ := hag c
      refine (Cert.Reference3Ideal.Read.val_main_v28_eq (F := Ideal) _ _ _ _ _ _).trans ?_
      refine Eq.trans ?_ (Cert.Kernel3Ideal.Inproj.second_eq m c).symm
      rw [e0, e1, e2, e3, e4, e5]

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run (Cert.Reference4Ideal.defs (F := Ideal)) _ _).mono (fun r h => ⟨fun c => (h c).2, sem_eq_zero_of_no_sems (by decide) _⟩)
    (Cert.Reference4Ideal.Value.run (F := Ideal) m ρ)

/-- At the ideal instance the modulation's vectors are the reference's. -/
theorem algebraic4 : Cert.algebraic_Kernel4Ideal_Reference4Ideal := by
  intro m g m' g' _ hag
  refine ⟨fun c => Cert.Kernel4Ideal.Adaln.found m c, ?_, ?_⟩
  · exact Cert.Kernel4Ideal.Adaln.values m g
  · refine (θ_run (Cert.Reference4Ideal.defs (F := Ideal)) _ _).mono (fun r h c => ⟨((h c).1).trans ?_, (h c).2⟩)
      (Cert.Reference4Ideal.Value.run (F := Ideal) m' g')
    obtain ⟨e0, e1, e2⟩ := hag c
    refine (Cert.Reference4Ideal.Read.val_main_v4_eq (F := Ideal) _ _ _).trans ?_
    refine Eq.trans ?_ (Cert.Kernel4Ideal.Adaln.result_eq m c).symm
    rw [e0, e1, e2]

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run (Cert.Reference5Ideal.defs (F := Ideal)) _ _).mono (fun r h => ⟨fun c => (h c).2, sem_eq_zero_of_no_sems (by decide) _⟩)
    (Cert.Reference5Ideal.Value.run (F := Ideal) m ρ)

/-- At the ideal instance the second Fourier stage's result is its reference's. -/
theorem algebraic5 : Cert.algebraic_Kernel5Ideal_Reference5Ideal := by
  intro m g m' g' _ hag
  refine ⟨fun c => Cert.Kernel5Ideal.Fourier.found m c, ?_, ?_⟩
  · exact Cert.Kernel5Ideal.Fourier.values m g
  · refine (θ_run (Cert.Reference5Ideal.defs (F := Ideal)) _ _).mono (fun r h c => ⟨((h c).1).trans ?_, (h c).2⟩)
      (Cert.Reference5Ideal.Value.run (F := Ideal) m' g')
    obtain ⟨e0, e1, e2, e3, e4⟩ := hag c
    refine (Cert.Reference5Ideal.Read.val_main_v43_eq (F := Ideal) _ _).trans ?_
    show _ = Cert.Reference5Ideal.Read.val_main_v43 (F := Ideal) _ _ _ _ _
    unfold Cert.Reference5Ideal.Read.val_main_v43
    rw [e0, e1, e2, e3, e4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_experts_exist.Gen.facts,
  frame_kernel, frame_ideal, frame_reference, frame_reference_pre, frame_kernel2, frame_ideal2, frame_reference2,
  frame_kernel3, frame_ideal3, frame_reference3, frame_kernel4, frame_ideal4, frame_reference4, frame_kernel5, frame_ideal5, frame_reference5,
  trivial, algebraic, trivial, algebraic2, trivial, algebraic3, trivial, algebraic4, trivial, algebraic5⟩

end Cert.Proof

end
